-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distribution [hPre_distribution : Cert.Pre_distribution.Facts] (m : (ℓ : Loc Cert.KernelIdeal.nD Cert.KernelIdeal.τ Cert.KernelIdeal.sig) → Buf (Elt Ideal) ℓ) : Prop :=
  ∀ c : Dev Cert.KernelIdeal.nD,
    (Cert.Pre_distribution.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distribution [hPre_distribution : Cert.Pre_distribution.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distribution.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_distribution [hKernelIdeal : Cert.KernelIdeal.Facts] [hPre_distribution : Cert.Pre_distribution.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distribution m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distribution [hReferenceIdeal : Cert.ReferenceIdeal.Facts] [hPre_distribution : Cert.Pre_distribution.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distribution m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_distribution [hKernelIdeal : Cert.KernelIdeal.Facts] [hReferenceIdeal : Cert.ReferenceIdeal.Facts] [hPre_distribution : Cert.Pre_distribution.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distribution m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distribution : Cert.Pre_distribution.Facts),
    quiescent_Kernel (hKernel := hKernel)
    ∧ quiescent_KernelIdeal (hKernelIdeal := hKernelIdeal)
    ∧ quiescent_KernelIdeal_pre_distribution (hKernelIdeal := hKernelIdeal) (hPre_distribution := hPre_distribution)
    ∧ quiescent_ReferenceIdeal (hReferenceIdeal := hReferenceIdeal)
    ∧ quiescent_ReferenceIdeal_pre_distribution (hReferenceIdeal := hReferenceIdeal) (hPre_distribution := hPre_distribution)
    ∧ preserves_Kernel_KernelIdeal
    ∧ algebraic_KernelIdeal_ReferenceIdeal_pre_distribution (hKernelIdeal := hKernelIdeal) (hReferenceIdeal := hReferenceIdeal) (hPre_distribution := hPre_distribution)
-- ==== Pre_distribution.lean ====
abbrev S128x100000 : Shape := ⟨2, ![128, 100000]⟩
abbrev S_ : Shape := ⟨0, ![]⟩
abbrev S128 : Shape := ⟨1, ![128]⟩
abbrev S128x1 : Shape := ⟨2, ![128, 1]⟩

class Facts : Prop where
  bcast_S_S128x100000 : S_.BroadcastsInDim S128x100000 (![] : Fin 0 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x100000_0_1 : S128x1.BroadcastsInDim S128x100000 (![0, 1] : Fin 2 → Fin S128x100000.rank)

variable [Facts]

def fn {F : FTy → Type} [FloatOps F] (main_arg0 : FVec F S128x100000 .f32) : IVec S128x100000 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_cst_0 : FVec F S_ .f32 := constant S_ .f32 0xFF800000#32
  let main_v2 : FVec F S128 .f32 := (fun x v => Host.reduce FloatOps.maximumf x v reducesTo_S128x100000_S128_d1 h_S_) main_arg0 main_cst_0
  let main_v3 : FVec F S128x1 .f32 := broadcastInDim S128x1 ![0] bcast_S128_S128x1_0 main_v2
  let main_cst_1 : FVec F S_ .f32 := constant S_ .f32 0xFF800000#32
  let main_v4 : FVec F S128x1 .f32 := broadcastInDim S128x1 ![] bcast_S_S128x1 main_cst_1
  let main_v5 : IVec S128x1 1 := cmpf .ogt main_v3 main_v4
  let main_v6 : IVec S128x100000 1 := broadcastInDim S128x100000 ![0, 1] bcast_S128x1_S128x100000_0_1 main_v5
  let main_v7 : IVec S128x100000 1 := andi main_v1 main_v6
  main_v7
-- ==== Kernel.lean ====
abbrev S128x100000 : Shape := ⟨2, ![128, 100000]⟩
abbrev S49x128x2048 : Shape := ⟨3, ![49, 128, 2048]⟩
abbrev S128x1 : Shape := ⟨2, ![128, 1]⟩
abbrev S5x128x1 : Shape := ⟨3, ![5, 128, 1]⟩
abbrev S5x128 : Shape := ⟨2, ![5, 128]⟩
abbrev S128 : Shape := ⟨1, ![128]⟩
abbrev S1x128x2048 : Shape := ⟨3, ![1, 128, 2048]⟩
abbrev S128x2048 : Shape := ⟨2, ![128, 2048]⟩
abbrev S1x128x1 : Shape := ⟨3, ![1, 128, 1]⟩

abbrev nBuf : Space → Nat
  | .hbm => 11
  | .vmem => 31
  | .smem => 0
  | _ => 0

abbrev bufTy : (tb : Table) → Fin (tcTables nBuf tb) → BufTy
  | .hbm, ⟨0, _⟩ => ⟨S128x100000, .f32⟩
  | .hbm, ⟨1, _⟩ => ⟨S49x128x2048, .f32⟩
  | .hbm, ⟨2, _⟩ => ⟨S49x128x2048, .f32⟩
  | .hbm, ⟨3, _⟩ => ⟨S49x128x2048, .f32⟩
  | .hbm, ⟨4, _⟩ => ⟨S49x128x2048, .f32⟩
  | .hbm, ⟨5, _⟩ => ⟨S49x128x2048, .f32⟩
  | .hbm, ⟨6, _⟩ => ⟨S128x100000, .f32⟩
  | .hbm, ⟨7, _⟩ => ⟨S128x1, .f32⟩
  | .hbm, ⟨8, _⟩ => ⟨S5x128x1, .i32⟩
  | .hbm, ⟨9, _⟩ => ⟨S5x128, .i32⟩
  | .hbm, ⟨10, _⟩ => ⟨S128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S128x2048, .f32⟩
  | .local _ .vmem, ⟨11, _⟩ => ⟨S128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S128x2048, .f32⟩
  | .local _ .vmem, ⟨23, _⟩ => ⟨S128x2048, .f32⟩
  | .local _ .vmem, ⟨24, _⟩ => ⟨S128x1, .f32⟩
  | .local _ .vmem, ⟨25, _⟩ => ⟨S5x128x1, .i32⟩
  | .local _ .vmem, ⟨26, _⟩ => ⟨S128x1, .f32⟩
  | .local _ .vmem, ⟨27, _⟩ => ⟨S128x1, .f32⟩
  | .local _ .vmem, ⟨28, _⟩ => ⟨S128x1, .f32⟩
  | .local _ .vmem, ⟨29, _⟩ => ⟨S5x128x1, .f32⟩
  | .local _ .vmem, ⟨30, _⟩ => ⟨S5x128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v0_2 : Ref sig .tc := ⟨.hbm, 3, rfl⟩
abbrev main_call0_v0_3 : Ref sig .tc := ⟨.hbm, 4, rfl⟩
abbrev main_call0_v0_4 : Ref sig .tc := ⟨.hbm, 5, rfl⟩
abbrev main_v0_1 : Ref sig .tc := ⟨.hbm, 6, rfl⟩
abbrev main_call0_v1_1 : Ref sig .tc := ⟨.hbm, 7, rfl⟩
abbrev main_call0_v1_2 : Ref sig .tc := ⟨.hbm, 8, rfl⟩
abbrev main_v0_0 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![49], ![false]⟩

def k1_cond2 (i : grid1.Coords) : BitVec 1 :=
  let arg0 : BitVec 32 := BitVec.ofNat 32 (i 0).val
  let c48_i32 : BitVec 32 := 48#32
  let v174 : BitVec 1 := Scalar.cmpi .eq arg0 c48_i32
  let v175 : BitVec 32 := Scalar.extui v174
  let c0_i32_120 : BitVec 32 := 0#32
  let v176 : BitVec 1 := Scalar.cmpi .ne v175 c0_i32_120
  v176

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x128x1 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1x1 : Shape := ⟨3, ![1, 1, 1]⟩
abbrev S5x128x100000 : Shape := ⟨3, ![5, 128, 100000]⟩
abbrev S1x128x100000 : Shape := ⟨3, ![1, 128, 100000]⟩
abbrev S5x128 : Shape := ⟨2, ![5, 128]⟩

abbrev nBuf : Space → Nat
  | .hbm => 315
  | .vmem => 0
  | .smem => 0
  | _ => 0

abbrev hbmTy0_0 (i : Nat) : BufTy := match i % 128 with
  | 0 => ⟨S128x100000, .f32⟩
  | 1 => ⟨S_, .f32⟩
  | 2 => ⟨S128, .f32⟩
  | 3 => ⟨S_, .f32⟩
  | 4 => ⟨S128, .f32⟩
  | 5 => ⟨S128, .f32⟩
  | 6 => ⟨S128x1, .f32⟩
  | 7 => ⟨S128x100000, .f32⟩
  | 8 => ⟨S128x100000, .f32⟩
  | 9 => ⟨S128x100000, .f32⟩
  | 10 => ⟨S_, .f32⟩
  | 11 => ⟨S128, .f32⟩
  | 12 => ⟨S128x1, .f32⟩
  | 13 => ⟨S128x1, .f32⟩
  | 14 => ⟨S128x100000, .f32⟩
  | 15 => ⟨S128x100000, .f32⟩
  | 16 => ⟨S128x100000, .f32⟩
  | 17 => ⟨S128x100000, .f32⟩
  | 18 => ⟨S_, .f32⟩
  | 19 => ⟨S128, .f32⟩
  | 20 => ⟨S128, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S_, .f32⟩
  | 33 => ⟨S_, .f32⟩
  | 34 => ⟨S_, .f32⟩
  | 35 => ⟨S1x1x1, .f32⟩
  | 36 => ⟨S1x1x1, .f32⟩
  | 37 => ⟨S1, .i32⟩
  | 38 => ⟨S_, .i32⟩
  | 39 => ⟨S1, .i32⟩
  | 40 => ⟨S_, .i32⟩
  | 41 => ⟨S5x128x100000, .i64⟩
  | 42 => ⟨S5x128x100000, .i64⟩
  | 43 => ⟨S5x128x100000, .i64⟩
  | 44 => ⟨S_, .i64⟩
  | 45 => ⟨S5x128x100000, .i64⟩
  | 46 => ⟨S5x128x100000, .i64⟩
  | 47 => ⟨S_, .i64⟩
  | 48 => ⟨S5x128x100000, .i64⟩
  | 49 => ⟨S5x128x100000, .i64⟩
  | 50 => ⟨S_, .i64⟩
  | 51 => ⟨S5x128x100000, .i64⟩
  | 52 => ⟨S5x128x100000, .i64⟩
  | 53 => ⟨S5x128x100000, .i64⟩
  | 54 => ⟨S5x128x100000, .i64⟩
  | 55 => ⟨S_, .i64⟩
  | 56 => ⟨S5x128x100000, .i64⟩
  | 57 => ⟨S5x128x100000, .i64⟩
  | 58 => ⟨S5x128x100000, .i32⟩
  | 59 => ⟨S5x128x100000, .i32⟩
  | 60 => ⟨S_, .i32⟩
  | 61 => ⟨S_, .i32⟩
  | 62 => ⟨S_, .i32⟩
  | 63 => ⟨S5x128x100000, .i32⟩
  | 64 => ⟨S5x128x100000, .i32⟩
  | 65 => ⟨S5x128x100000, .i32⟩
  | 66 => ⟨S5x128x100000, .i32⟩
  | 67 => ⟨S5x128x100000, .i32⟩
  | 68 => ⟨S_, .i32⟩
  | 69 => ⟨S5x128x100000, .i32⟩
  | 70 => ⟨S5x128x100000, .i32⟩
  | 71 => ⟨S_, .i32⟩
  | 72 => ⟨S5x128x100000, .i32⟩
  | 73 => ⟨S5x128x100000, .i32⟩
  | 74 => ⟨S5x128x100000, .i32⟩
  | 75 => ⟨S5x128x100000, .i32⟩
  | 76 => ⟨S5x128x100000, .i32⟩
  | 77 => ⟨S_, .i32⟩
  | 78 => ⟨S5x128x100000, .i32⟩
  | 79 => ⟨S5x128x100000, .i32⟩
  | 80 => ⟨S_, .i32⟩
  | 81 => ⟨S5x128x100000, .i32⟩
  | 82 => ⟨S5x128x100000, .i32⟩
  | 83 => ⟨S5x128x100000, .i32⟩
  | 84 => ⟨S5x128x100000, .i32⟩
  | 85 => ⟨S5x128x100000, .i32⟩
  | 86 => ⟨S_, .i32⟩
  | 87 => ⟨S5x128x100000, .i32⟩
  | 88 => ⟨S5x128x100000, .i32⟩
  | 89 => ⟨S_, .i32⟩
  | 90 => ⟨S5x128x100000, .i32⟩
  | 91 => ⟨S5x128x100000, .i32⟩
  | 92 => ⟨S5x128x100000, .i32⟩
  | 93 => ⟨S5x128x100000, .i32⟩
  | 94 => ⟨S5x128x100000, .i32⟩
  | 95 => ⟨S_, .i32⟩
  | 96 => ⟨S5x128x100000, .i32⟩
  | 97 => ⟨S5x128x100000, .i32⟩
  | 98 => ⟨S_, .i32⟩
  | 99 => ⟨S5x128x100000, .i32⟩
  | 100 => ⟨S5x128x100000, .i32⟩
  | 101 => ⟨S5x128x100000, .i32⟩
  | 102 => ⟨S5x128x100000, .i32⟩
  | 103 => ⟨S5x128x100000, .i32⟩
  | 104 => ⟨S5x128x100000, .i32⟩
  | 105 => ⟨S5x128x100000, .i32⟩
  | 106 => ⟨S5x128x100000, .i32⟩
  | 107 => ⟨S_, .i32⟩
  | 108 => ⟨S5x128x100000, .i32⟩
  | 109 => ⟨S5x128x100000, .i32⟩
  | 110 => ⟨S5x128x100000, .i32⟩
  | 111 => ⟨S_, .i32⟩
  | 112 => ⟨S5x128x100000, .i32⟩
  | 113 => ⟨S5x128x100000, .i32⟩
  | 114 => ⟨S_, .i32⟩
  | 115 => ⟨S5x128x100000, .i32⟩
  | 116 => ⟨S5x128x100000, .i32⟩
  | 117 => ⟨S5x128x100000, .i32⟩
  | 118 => ⟨S5x128x100000, .i32⟩
  | 119 => ⟨S5x128x100000, .i32⟩
  | 120 => ⟨S_, .i32⟩
  | 121 => ⟨S5x128x100000, .i32⟩
  | 122 => ⟨S5x128x100000, .i32⟩
  | 123 => ⟨S_, .i32⟩
  | 124 => ⟨S5x128x100000, .i32⟩
  | 125 => ⟨S5x128x100000, .i32⟩
  | 126 => ⟨S5x128x100000, .i32⟩
  | 127 => ⟨S5x128x100000, .i32⟩
  | _ => ⟨S128x100000, .f32⟩

abbrev hbmTy0_1 (i : Nat) : BufTy := match i % 128 with
  | 0 => ⟨S5x128x100000, .i32⟩
  | 1 => ⟨S_, .i32⟩
  | 2 => ⟨S5x128x100000, .i32⟩
  | 3 => ⟨S5x128x100000, .i32⟩
  | 4 => ⟨S_, .i32⟩
  | 5 => ⟨S5x128x100000, .i32⟩
  | 6 => ⟨S5x128x100000, .i32⟩
  | 7 => ⟨S5x128x100000, .i32⟩
  | 8 => ⟨S5x128x100000, .i32⟩
  | 9 => ⟨S5x128x100000, .i32⟩
  | 10 => ⟨S_, .i32⟩
  | 11 => ⟨S5x128x100000, .i32⟩
  | 12 => ⟨S5x128x100000, .i32⟩
  | 13 => ⟨S_, .i32⟩
  | 14 => ⟨S5x128x100000, .i32⟩
  | 15 => ⟨S5x128x100000, .i32⟩
  | 16 => ⟨S5x128x100000, .i32⟩
  | 17 => ⟨S5x128x100000, .i32⟩
  | 18 => ⟨S5x128x100000, .i32⟩
  | 19 => ⟨S5x128x100000, .i32⟩
  | 20 => ⟨S5x128x100000, .i32⟩
  | 21 => ⟨S5x128x100000, .i32⟩
  | 22 => ⟨S_, .i32⟩
  | 23 => ⟨S5x128x100000, .i32⟩
  | 24 => ⟨S5x128x100000, .i32⟩
  | 25 => ⟨S5x128x100000, .i32⟩
  | 26 => ⟨S_, .i32⟩
  | 27 => ⟨S5x128x100000, .i32⟩
  | 28 => ⟨S5x128x100000, .i32⟩
  | 29 => ⟨S_, .i32⟩
  | 30 => ⟨S5x128x100000, .i32⟩
  | 31 => ⟨S5x128x100000, .i32⟩
  | 32 => ⟨S5x128x100000, .i32⟩
  | 33 => ⟨S5x128x100000, .i32⟩
  | 34 => ⟨S5x128x100000, .i32⟩
  | 35 => ⟨S_, .i32⟩
  | 36 => ⟨S5x128x100000, .i32⟩
  | 37 => ⟨S5x128x100000, .i32⟩
  | 38 => ⟨S_, .i32⟩
  | 39 => ⟨S5x128x100000, .i32⟩
  | 40 => ⟨S5x128x100000, .i32⟩
  | 41 => ⟨S5x128x100000, .i32⟩
  | 42 => ⟨S5x128x100000, .i32⟩
  | 43 => ⟨S5x128x100000, .i32⟩
  | 44 => ⟨S_, .i32⟩
  | 45 => ⟨S5x128x100000, .i32⟩
  | 46 => ⟨S5x128x100000, .i32⟩
  | 47 => ⟨S_, .i32⟩
  | 48 => ⟨S5x128x100000, .i32⟩
  | 49 => ⟨S5x128x100000, .i32⟩
  | 50 => ⟨S5x128x100000, .i32⟩
  | 51 => ⟨S5x128x100000, .i32⟩
  | 52 => ⟨S5x128x100000, .i32⟩
  | 53 => ⟨S_, .i32⟩
  | 54 => ⟨S5x128x100000, .i32⟩
  | 55 => ⟨S5x128x100000, .i32⟩
  | 56 => ⟨S_, .i32⟩
  | 57 => ⟨S5x128x100000, .i32⟩
  | 58 => ⟨S5x128x100000, .i32⟩
  | 59 => ⟨S5x128x100000, .i32⟩
  | 60 => ⟨S5x128x100000, .i32⟩
  | 61 => ⟨S5x128x100000, .i32⟩
  | 62 => ⟨S5x128x100000, .i32⟩
  | 63 => ⟨S5x128x100000, .i32⟩
  | 64 => ⟨S5x128x100000, .i32⟩
  | 65 => ⟨S_, .i32⟩
  | 66 => ⟨S5x128x100000, .i32⟩
  | 67 => ⟨S5x128x100000, .i32⟩
  | 68 => ⟨S5x128x100000, .i32⟩
  | 69 => ⟨S_, .i32⟩
  | 70 => ⟨S5x128x100000, .i32⟩
  | 71 => ⟨S5x128x100000, .i32⟩
  | 72 => ⟨S_, .i32⟩
  | 73 => ⟨S5x128x100000, .i32⟩
  | 74 => ⟨S5x128x100000, .i32⟩
  | 75 => ⟨S5x128x100000, .i32⟩
  | 76 => ⟨S5x128x100000, .i32⟩
  | 77 => ⟨S5x128x100000, .i32⟩
  | 78 => ⟨S_, .i32⟩
  | 79 => ⟨S5x128x100000, .i32⟩
  | 80 => ⟨S5x128x100000, .i32⟩
  | 81 => ⟨S_, .i32⟩
  | 82 => ⟨S5x128x100000, .i32⟩
  | 83 => ⟨S5x128x100000, .i32⟩
  | 84 => ⟨S5x128x100000, .i32⟩
  | 85 => ⟨S5x128x100000, .i32⟩
  | 86 => ⟨S5x128x100000, .i32⟩
  | 87 => ⟨S_, .i32⟩
  | 88 => ⟨S5x128x100000, .i32⟩
  | 89 => ⟨S5x128x100000, .i32⟩
  | 90 => ⟨S_, .i32⟩
  | 91 => ⟨S5x128x100000, .i32⟩
  | 92 => ⟨S5x128x100000, .i32⟩
  | 93 => ⟨S5x128x100000, .i32⟩
  | 94 => ⟨S5x128x100000, .i32⟩
  | 95 => ⟨S5x128x100000, .i32⟩
  | 96 => ⟨S_, .i32⟩
  | 97 => ⟨S5x128x100000, .i32⟩
  | 98 => ⟨S5x128x100000, .i32⟩
  | 99 => ⟨S_, .i32⟩
  | 100 => ⟨S5x128x100000, .i32⟩
  | 101 => ⟨S5x128x100000, .i32⟩
  | 102 => ⟨S5x128x100000, .i32⟩
  | 103 => ⟨S5x128x100000, .i32⟩
  | 104 => ⟨S5x128x100000, .i32⟩
  | 105 => ⟨S5x128x100000, .i32⟩
  | 106 => ⟨S5x128x100000, .i32⟩
  | 107 => ⟨S5x128x100000, .i32⟩
  | 108 => ⟨S_, .i32⟩
  | 109 => ⟨S5x128x100000, .i32⟩
  | 110 => ⟨S5x128x100000, .i32⟩
  | 111 => ⟨S5x128x100000, .i32⟩
  | 112 => ⟨S_, .i32⟩
  | 113 => ⟨S5x128x100000, .i32⟩
  | 114 => ⟨S5x128x100000, .i32⟩
  | 115 => ⟨S_, .i32⟩
  | 116 => ⟨S5x128x100000, .i32⟩
  | 117 => ⟨S5x128x100000, .i32⟩
  | 118 => ⟨S5x128x100000, .i32⟩
  | 119 => ⟨S5x128x100000, .i32⟩
  | 120 => ⟨S5x128x100000, .i32⟩
  | 121 => ⟨S_, .i32⟩
  | 122 => ⟨S5x128x100000, .i32⟩
  | 123 => ⟨S5x128x100000, .i32⟩
  | 124 => ⟨S_, .i32⟩
  | 125 => ⟨S5x128x100000, .i32⟩
  | 126 => ⟨S5x128x100000, .i32⟩
  | 127 => ⟨S5x128x100000, .i32⟩
  | _ => ⟨S128x100000, .f32⟩

abbrev hbmTy0_2 (i : Nat) : BufTy := match i % 128 with
  | 0 => ⟨S5x128x100000, .i32⟩
  | 1 => ⟨S5x128x100000, .i32⟩
  | 2 => ⟨S_, .i32⟩
  | 3 => ⟨S5x128x100000, .i32⟩
  | 4 => ⟨S5x128x100000, .i32⟩
  | 5 => ⟨S_, .i32⟩
  | 6 => ⟨S5x128x100000, .i32⟩
  | 7 => ⟨S5x128x100000, .i32⟩
  | 8 => ⟨S5x128x100000, .i32⟩
  | 9 => ⟨S5x128x100000, .i32⟩
  | 10 => ⟨S5x128x100000, .i32⟩
  | 11 => ⟨S_, .i32⟩
  | 12 => ⟨S5x128x100000, .i32⟩
  | 13 => ⟨S5x128x100000, .i32⟩
  | 14 => ⟨S_, .i32⟩
  | 15 => ⟨S5x128x100000, .i32⟩
  | 16 => ⟨S5x128x100000, .i32⟩
  | 17 => ⟨S5x128x100000, .i32⟩
  | 18 => ⟨S5x128x100000, .i32⟩
  | 19 => ⟨S5x128x100000, .i32⟩
  | 20 => ⟨S5x128x100000, .i32⟩
  | 21 => ⟨S5x128x100000, .i32⟩
  | 22 => ⟨S5x128x100000, .i32⟩
  | 23 => ⟨S_, .i32⟩
  | 24 => ⟨S5x128x100000, .i32⟩
  | 25 => ⟨S5x128x100000, .i32⟩
  | 26 => ⟨S5x128x100000, .i32⟩
  | 27 => ⟨S_, .i32⟩
  | 28 => ⟨S5x128x100000, .i32⟩
  | 29 => ⟨S5x128x100000, .i32⟩
  | 30 => ⟨S_, .i32⟩
  | 31 => ⟨S5x128x100000, .i32⟩
  | 32 => ⟨S5x128x100000, .i32⟩
  | 33 => ⟨S5x128x100000, .f32⟩
  | 34 => ⟨S_, .f32⟩
  | 35 => ⟨S5x128x100000, .f32⟩
  | 36 => ⟨S5x128x100000, .f32⟩
  | 37 => ⟨S1x1x1, .f32⟩
  | 38 => ⟨S5x128x100000, .f32⟩
  | 39 => ⟨S5x128x100000, .f32⟩
  | 40 => ⟨S5x128x100000, .f32⟩
  | 41 => ⟨S5x128x100000, .f32⟩
  | 42 => ⟨S5x128x100000, .f32⟩
  | 43 => ⟨S5x128x100000, .f32⟩
  | 44 => ⟨S_, .f32⟩
  | 45 => ⟨S5x128x100000, .f32⟩
  | 46 => ⟨S5x128x100000, .f32⟩
  | 47 => ⟨S5x128x100000, .f32⟩
  | 48 => ⟨S5x128x100000, .f32⟩
  | 49 => ⟨S5x128x100000, .f32⟩
  | 50 => ⟨S5x128x100000, .f32⟩
  | 51 => ⟨S1x128x100000, .f32⟩
  | 52 => ⟨S5x128x100000, .f32⟩
  | 53 => ⟨S5x128x100000, .f32⟩
  | 54 => ⟨S5x128x100000, .i32⟩
  | 55 => ⟨S_, .f32⟩
  | 56 => ⟨S_, .i32⟩
  | 57 => ⟨S5x128, .f32⟩
  | 58 => ⟨S5x128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_cst_0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_c : Ref sig .tc := ⟨.hbm, 44, rfl⟩
abbrev main_call1_v11 : Ref sig .tc := ⟨.hbm, 45, rfl⟩
abbrev main_call1_v12 : Ref sig .tc := ⟨.hbm, 46, rfl⟩
abbrev main_call1_c_0 : Ref sig .tc := ⟨.hbm, 47, rfl⟩
abbrev main_call1_v13 : Ref sig .tc := ⟨.hbm, 48, rfl⟩
abbrev main_call1_v14 : Ref sig .tc := ⟨.hbm, 49, rfl⟩
abbrev main_call1_c_1 : Ref sig .tc := ⟨.hbm, 50, rfl⟩
abbrev main_call1_v15 : Ref sig .tc := ⟨.hbm, 51, rfl⟩
abbrev main_call1_v16 : Ref sig .tc := ⟨.hbm, 52, rfl⟩
abbrev main_call1_v17 : Ref sig .tc := ⟨.hbm, 53, rfl⟩
abbrev main_call1_v18 : Ref sig .tc := ⟨.hbm, 54, rfl⟩
abbrev main_call1_c_2 : Ref sig .tc := ⟨.hbm, 55, rfl⟩
abbrev main_call1_v19 : Ref sig .tc := ⟨.hbm, 56, rfl⟩
abbrev main_call1_v20 : Ref sig .tc := ⟨.hbm, 57, rfl⟩
abbrev main_call1_v21 : Ref sig .tc := ⟨.hbm, 58, rfl⟩
abbrev main_call1_v22 : Ref sig .tc := ⟨.hbm, 59, rfl⟩
abbrev main_call1_call0_v0 : Ref sig .tc := ⟨.hbm, 60, rfl⟩
abbrev main_call1_call0_c : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_c_0 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_call0_c_1 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_call0_v12 : Ref sig .tc := ⟨.hbm, 75, rfl⟩
abbrev main_call1_call0_v13 : Ref sig .tc := ⟨.hbm, 76, rfl⟩
abbrev main_call1_call0_c_2 : Ref sig .tc := ⟨.hbm, 77, rfl⟩
abbrev main_call1_call0_v14 : Ref sig .tc := ⟨.hbm, 78, rfl⟩
abbrev main_call1_call0_v15 : Ref sig .tc := ⟨.hbm, 79, rfl⟩
abbrev main_call1_call0_c_3 : Ref sig .tc := ⟨.hbm, 80, rfl⟩
abbrev main_call1_call0_v16 : Ref sig .tc := ⟨.hbm, 81, rfl⟩
abbrev main_call1_call0_v17 : Ref sig .tc := ⟨.hbm, 82, rfl⟩
abbrev main_call1_call0_v18 : Ref sig .tc := ⟨.hbm, 83, rfl⟩
abbrev main_call1_call0_v19 : Ref sig .tc := ⟨.hbm, 84, rfl⟩
abbrev main_call1_call0_v20 : Ref sig .tc := ⟨.hbm, 85, rfl⟩
abbrev main_call1_call0_c_4 : Ref sig .tc := ⟨.hbm, 86, rfl⟩
abbrev main_call1_call0_v21 : Ref sig .tc := ⟨.hbm, 87, rfl⟩
abbrev main_call1_call0_v22 : Ref sig .tc := ⟨.hbm, 88, rfl⟩
abbrev main_call1_call0_c_5 : Ref sig .tc := ⟨.hbm, 89, rfl⟩
abbrev main_call1_call0_v23 : Ref sig .tc := ⟨.hbm, 90, rfl⟩
abbrev main_call1_call0_v24 : Ref sig .tc := ⟨.hbm, 91, rfl⟩
abbrev main_call1_call0_v25 : Ref sig .tc := ⟨.hbm, 92, rfl⟩
abbrev main_call1_call0_v26 : Ref sig .tc := ⟨.hbm, 93, rfl⟩
abbrev main_call1_call0_v27 : Ref sig .tc := ⟨.hbm, 94, rfl⟩
abbrev main_call1_call0_c_6 : Ref sig .tc := ⟨.hbm, 95, rfl⟩
abbrev main_call1_call0_v28 : Ref sig .tc := ⟨.hbm, 96, rfl⟩
abbrev main_call1_call0_v29 : Ref sig .tc := ⟨.hbm, 97, rfl⟩
abbrev main_call1_call0_c_7 : Ref sig .tc := ⟨.hbm, 98, rfl⟩
abbrev main_call1_call0_v30 : Ref sig .tc := ⟨.hbm, 99, rfl⟩
abbrev main_call1_call0_v31 : Ref sig .tc := ⟨.hbm, 100, rfl⟩
abbrev main_call1_call0_v32 : Ref sig .tc := ⟨.hbm, 101, rfl⟩
abbrev main_call1_call0_v33 : Ref sig .tc := ⟨.hbm, 102, rfl⟩
abbrev main_call1_call0_v34 : Ref sig .tc := ⟨.hbm, 103, rfl⟩
abbrev main_call1_call0_v35 : Ref sig .tc := ⟨.hbm, 104, rfl⟩
abbrev main_call1_call0_v36 : Ref sig .tc := ⟨.hbm, 105, rfl⟩
abbrev main_call1_call0_v37 : Ref sig .tc := ⟨.hbm, 106, rfl⟩
abbrev main_call1_call0_c_8 : Ref sig .tc := ⟨.hbm, 107, rfl⟩
abbrev main_call1_call0_v38 : Ref sig .tc := ⟨.hbm, 108, rfl⟩
abbrev main_call1_call0_v39 : Ref sig .tc := ⟨.hbm, 109, rfl⟩
abbrev main_call1_call0_v40 : Ref sig .tc := ⟨.hbm, 110, rfl⟩
abbrev main_call1_call0_c_9 : Ref sig .tc := ⟨.hbm, 111, rfl⟩
abbrev main_call1_call0_v41 : Ref sig .tc := ⟨.hbm, 112, rfl⟩
abbrev main_call1_call0_v42 : Ref sig .tc := ⟨.hbm, 113, rfl⟩
abbrev main_call1_call0_c_10 : Ref sig .tc := ⟨.hbm, 114, rfl⟩
abbrev main_call1_call0_v43 : Ref sig .tc := ⟨.hbm, 115, rfl⟩
abbrev main_call1_call0_v44 : Ref sig .tc := ⟨.hbm, 116, rfl⟩
abbrev main_call1_call0_v45 : Ref sig .tc := ⟨.hbm, 117, rfl⟩
abbrev main_call1_call0_v46 : Ref sig .tc := ⟨.hbm, 118, rfl⟩
abbrev main_call1_call0_v47 : Ref sig .tc := ⟨.hbm, 119, rfl⟩
abbrev main_call1_call0_c_11 : Ref sig .tc := ⟨.hbm, 120, rfl⟩
abbrev main_call1_call0_v48 : Ref sig .tc := ⟨.hbm, 121, rfl⟩
abbrev main_call1_call0_v49 : Ref sig .tc := ⟨.hbm, 122, rfl⟩
abbrev main_call1_call0_c_12 : Ref sig .tc := ⟨.hbm, 123, rfl⟩
abbrev main_call1_call0_v50 : Ref sig .tc := ⟨.hbm, 124, rfl⟩
abbrev main_call1_call0_v51 : Ref sig .tc := ⟨.hbm, 125, rfl⟩
abbrev main_call1_call0_v52 : Ref sig .tc := ⟨.hbm, 126, rfl⟩
abbrev main_call1_call0_v53 : Ref sig .tc := ⟨.hbm, 127, rfl⟩
abbrev main_call1_call0_v54 : Ref sig .tc := ⟨.hbm, 128, rfl⟩
abbrev main_call1_call0_c_13 : Ref sig .tc := ⟨.hbm, 129, rfl⟩
abbrev main_call1_call0_v55 : Ref sig .tc := ⟨.hbm, 130, rfl⟩
abbrev main_call1_call0_v56 : Ref sig .tc := ⟨.hbm, 131, rfl⟩
abbrev main_call1_call0_c_14 : Ref sig .tc := ⟨.hbm, 132, rfl⟩
abbrev main_call1_call0_v57 : Ref sig .tc := ⟨.hbm, 133, rfl⟩
abbrev main_call1_call0_v58 : Ref sig .tc := ⟨.hbm, 134, rfl⟩
abbrev main_call1_call0_v59 : Ref sig .tc := ⟨.hbm, 135, rfl⟩
abbrev main_call1_call0_v60 : Ref sig .tc := ⟨.hbm, 136, rfl⟩
abbrev main_call1_call0_v61 : Ref sig .tc := ⟨.hbm, 137, rfl⟩
abbrev main_call1_call0_c_15 : Ref sig .tc := ⟨.hbm, 138, rfl⟩
abbrev main_call1_call0_v62 : Ref sig .tc := ⟨.hbm, 139, rfl⟩
abbrev main_call1_call0_v63 : Ref sig .tc := ⟨.hbm, 140, rfl⟩
abbrev main_call1_call0_c_16 : Ref sig .tc := ⟨.hbm, 141, rfl⟩
abbrev main_call1_call0_v64 : Ref sig .tc := ⟨.hbm, 142, rfl⟩
abbrev main_call1_call0_v65 : Ref sig .tc := ⟨.hbm, 143, rfl⟩
abbrev main_call1_call0_v66 : Ref sig .tc := ⟨.hbm, 144, rfl⟩
abbrev main_call1_call0_v67 : Ref sig .tc := ⟨.hbm, 145, rfl⟩
abbrev main_call1_call0_v68 : Ref sig .tc := ⟨.hbm, 146, rfl⟩
abbrev main_call1_call0_v69 : Ref sig .tc := ⟨.hbm, 147, rfl⟩
abbrev main_call1_call0_v70 : Ref sig .tc := ⟨.hbm, 148, rfl⟩
abbrev main_call1_call0_v71 : Ref sig .tc := ⟨.hbm, 149, rfl⟩
abbrev main_call1_call0_c_17 : Ref sig .tc := ⟨.hbm, 150, rfl⟩
abbrev main_call1_call0_v72 : Ref sig .tc := ⟨.hbm, 151, rfl⟩
abbrev main_call1_call0_v73 : Ref sig .tc := ⟨.hbm, 152, rfl⟩
abbrev main_call1_call0_v74 : Ref sig .tc := ⟨.hbm, 153, rfl⟩
abbrev main_call1_call0_c_18 : Ref sig .tc := ⟨.hbm, 154, rfl⟩
abbrev main_call1_call0_v75 : Ref sig .tc := ⟨.hbm, 155, rfl⟩
abbrev main_call1_call0_v76 : Ref sig .tc := ⟨.hbm, 156, rfl⟩
abbrev main_call1_call0_c_19 : Ref sig .tc := ⟨.hbm, 157, rfl⟩
abbrev main_call1_call0_v77 : Ref sig .tc := ⟨.hbm, 158, rfl⟩
abbrev main_call1_call0_v78 : Ref sig .tc := ⟨.hbm, 159, rfl⟩
abbrev main_call1_call0_v79 : Ref sig .tc := ⟨.hbm, 160, rfl⟩
abbrev main_call1_call0_v80 : Ref sig .tc := ⟨.hbm, 161, rfl⟩
abbrev main_call1_call0_v81 : Ref sig .tc := ⟨.hbm, 162, rfl⟩
abbrev main_call1_call0_c_20 : Ref sig .tc := ⟨.hbm, 163, rfl⟩
abbrev main_call1_call0_v82 : Ref sig .tc := ⟨.hbm, 164, rfl⟩
abbrev main_call1_call0_v83 : Ref sig .tc := ⟨.hbm, 165, rfl⟩
abbrev main_call1_call0_c_21 : Ref sig .tc := ⟨.hbm, 166, rfl⟩
abbrev main_call1_call0_v84 : Ref sig .tc := ⟨.hbm, 167, rfl⟩
abbrev main_call1_call0_v85 : Ref sig .tc := ⟨.hbm, 168, rfl⟩
abbrev main_call1_call0_v86 : Ref sig .tc := ⟨.hbm, 169, rfl⟩
abbrev main_call1_call0_v87 : Ref sig .tc := ⟨.hbm, 170, rfl⟩
abbrev main_call1_call0_v88 : Ref sig .tc := ⟨.hbm, 171, rfl⟩
abbrev main_call1_call0_c_22 : Ref sig .tc := ⟨.hbm, 172, rfl⟩
abbrev main_call1_call0_v89 : Ref sig .tc := ⟨.hbm, 173, rfl⟩
abbrev main_call1_call0_v90 : Ref sig .tc := ⟨.hbm, 174, rfl⟩
abbrev main_call1_call0_c_23 : Ref sig .tc := ⟨.hbm, 175, rfl⟩
abbrev main_call1_call0_v91 : Ref sig .tc := ⟨.hbm, 176, rfl⟩
abbrev main_call1_call0_v92 : Ref sig .tc := ⟨.hbm, 177, rfl⟩
abbrev main_call1_call0_v93 : Ref sig .tc := ⟨.hbm, 178, rfl⟩
abbrev main_call1_call0_v94 : Ref sig .tc := ⟨.hbm, 179, rfl⟩
abbrev main_call1_call0_v95 : Ref sig .tc := ⟨.hbm, 180, rfl⟩
abbrev main_call1_call0_c_24 : Ref sig .tc := ⟨.hbm, 181, rfl⟩
abbrev main_call1_call0_v96 : Ref sig .tc := ⟨.hbm, 182, rfl⟩
abbrev main_call1_call0_v97 : Ref sig .tc := ⟨.hbm, 183, rfl⟩
abbrev main_call1_call0_c_25 : Ref sig .tc := ⟨.hbm, 184, rfl⟩
abbrev main_call1_call0_v98 : Ref sig .tc := ⟨.hbm, 185, rfl⟩
abbrev main_call1_call0_v99 : Ref sig .tc := ⟨.hbm, 186, rfl⟩
abbrev main_call1_call0_v100 : Ref sig .tc := ⟨.hbm, 187, rfl⟩
abbrev main_call1_call0_v101 : Ref sig .tc := ⟨.hbm, 188, rfl⟩
abbrev main_call1_call0_v102 : Ref sig .tc := ⟨.hbm, 189, rfl⟩
abbrev main_call1_call0_v103 : Ref sig .tc := ⟨.hbm, 190, rfl⟩
abbrev main_call1_call0_v104 : Ref sig .tc := ⟨.hbm, 191, rfl⟩
abbrev main_call1_call0_v105 : Ref sig .tc := ⟨.hbm, 192, rfl⟩
abbrev main_call1_call0_c_26 : Ref sig .tc := ⟨.hbm, 193, rfl⟩
abbrev main_call1_call0_v106 : Ref sig .tc := ⟨.hbm, 194, rfl⟩
abbrev main_call1_call0_v107 : Ref sig .tc := ⟨.hbm, 195, rfl⟩
abbrev main_call1_call0_v108 : Ref sig .tc := ⟨.hbm, 196, rfl⟩
abbrev main_call1_call0_c_27 : Ref sig .tc := ⟨.hbm, 197, rfl⟩
abbrev main_call1_call0_v109 : Ref sig .tc := ⟨.hbm, 198, rfl⟩
abbrev main_call1_call0_v110 : Ref sig .tc := ⟨.hbm, 199, rfl⟩
abbrev main_call1_call0_c_28 : Ref sig .tc := ⟨.hbm, 200, rfl⟩
abbrev main_call1_call0_v111 : Ref sig .tc := ⟨.hbm, 201, rfl⟩
abbrev main_call1_call0_v112 : Ref sig .tc := ⟨.hbm, 202, rfl⟩
abbrev main_call1_call0_v113 : Ref sig .tc := ⟨.hbm, 203, rfl⟩
abbrev main_call1_call0_v114 : Ref sig .tc := ⟨.hbm, 204, rfl⟩
abbrev main_call1_call0_v115 : Ref sig .tc := ⟨.hbm, 205, rfl⟩
abbrev main_call1_call0_c_29 : Ref sig .tc := ⟨.hbm, 206, rfl⟩
abbrev main_call1_call0_v116 : Ref sig .tc := ⟨.hbm, 207, rfl⟩
abbrev main_call1_call0_v117 : Ref sig .tc := ⟨.hbm, 208, rfl⟩
abbrev main_call1_call0_c_30 : Ref sig .tc := ⟨.hbm, 209, rfl⟩
abbrev main_call1_call0_v118 : Ref sig .tc := ⟨.hbm, 210, rfl⟩
abbrev main_call1_call0_v119 : Ref sig .tc := ⟨.hbm, 211, rfl⟩
abbrev main_call1_call0_v120 : Ref sig .tc := ⟨.hbm, 212, rfl⟩
abbrev main_call1_call0_v121 : Ref sig .tc := ⟨.hbm, 213, rfl⟩
abbrev main_call1_call0_v122 : Ref sig .tc := ⟨.hbm, 214, rfl⟩
abbrev main_call1_call0_c_31 : Ref sig .tc := ⟨.hbm, 215, rfl⟩
abbrev main_call1_call0_v123 : Ref sig .tc := ⟨.hbm, 216, rfl⟩
abbrev main_call1_call0_v124 : Ref sig .tc := ⟨.hbm, 217, rfl⟩
abbrev main_call1_call0_c_32 : Ref sig .tc := ⟨.hbm, 218, rfl⟩
abbrev main_call1_call0_v125 : Ref sig .tc := ⟨.hbm, 219, rfl⟩
abbrev main_call1_call0_v126 : Ref sig .tc := ⟨.hbm, 220, rfl⟩
abbrev main_call1_call0_v127 : Ref sig .tc := ⟨.hbm, 221, rfl⟩
abbrev main_call1_call0_v128 : Ref sig .tc := ⟨.hbm, 222, rfl⟩
abbrev main_call1_call0_v129 : Ref sig .tc := ⟨.hbm, 223, rfl⟩
abbrev main_call1_call0_c_33 : Ref sig .tc := ⟨.hbm, 224, rfl⟩
abbrev main_call1_call0_v130 : Ref sig .tc := ⟨.hbm, 225, rfl⟩
abbrev main_call1_call0_v131 : Ref sig .tc := ⟨.hbm, 226, rfl⟩
abbrev main_call1_call0_c_34 : Ref sig .tc := ⟨.hbm, 227, rfl⟩
abbrev main_call1_call0_v132 : Ref sig .tc := ⟨.hbm, 228, rfl⟩
abbrev main_call1_call0_v133 : Ref sig .tc := ⟨.hbm, 229, rfl⟩
abbrev main_call1_call0_v134 : Ref sig .tc := ⟨.hbm, 230, rfl⟩
abbrev main_call1_call0_v135 : Ref sig .tc := ⟨.hbm, 231, rfl⟩
abbrev main_call1_call0_v136 : Ref sig .tc := ⟨.hbm, 232, rfl⟩
abbrev main_call1_call0_v137 : Ref sig .tc := ⟨.hbm, 233, rfl⟩
abbrev main_call1_call0_v138 : Ref sig .tc := ⟨.hbm, 234, rfl⟩
abbrev main_call1_call0_v139 : Ref sig .tc := ⟨.hbm, 235, rfl⟩
abbrev main_call1_call0_c_35 : Ref sig .tc := ⟨.hbm, 236, rfl⟩
abbrev main_call1_call0_v140 : Ref sig .tc := ⟨.hbm, 237, rfl⟩
abbrev main_call1_call0_v141 : Ref sig .tc := ⟨.hbm, 238, rfl⟩
abbrev main_call1_call0_v142 : Ref sig .tc := ⟨.hbm, 239, rfl⟩
abbrev main_call1_call0_c_36 : Ref sig .tc := ⟨.hbm, 240, rfl⟩
abbrev main_call1_call0_v143 : Ref sig .tc := ⟨.hbm, 241, rfl⟩
abbrev main_call1_call0_v144 : Ref sig .tc := ⟨.hbm, 242, rfl⟩
abbrev main_call1_call0_c_37 : Ref sig .tc := ⟨.hbm, 243, rfl⟩
abbrev main_call1_call0_v145 : Ref sig .tc := ⟨.hbm, 244, rfl⟩
abbrev main_call1_call0_v146 : Ref sig .tc := ⟨.hbm, 245, rfl⟩
abbrev main_call1_call0_v147 : Ref sig .tc := ⟨.hbm, 246, rfl⟩
abbrev main_call1_call0_v148 : Ref sig .tc := ⟨.hbm, 247, rfl⟩
abbrev main_call1_call0_v149 : Ref sig .tc := ⟨.hbm, 248, rfl⟩
abbrev main_call1_call0_c_38 : Ref sig .tc := ⟨.hbm, 249, rfl⟩
abbrev main_call1_call0_v150 : Ref sig .tc := ⟨.hbm, 250, rfl⟩
abbrev main_call1_call0_v151 : Ref sig .tc := ⟨.hbm, 251, rfl⟩
abbrev main_call1_call0_c_39 : Ref sig .tc := ⟨.hbm, 252, rfl⟩
abbrev main_call1_call0_v152 : Ref sig .tc := ⟨.hbm, 253, rfl⟩
abbrev main_call1_call0_v153 : Ref sig .tc := ⟨.hbm, 254, rfl⟩
abbrev main_call1_call0_v154 : Ref sig .tc := ⟨.hbm, 255, rfl⟩
abbrev main_call1_call0_v155 : Ref sig .tc := ⟨.hbm, 256, rfl⟩
abbrev main_call1_call0_v156 : Ref sig .tc := ⟨.hbm, 257, rfl⟩
abbrev main_call1_call0_c_40 : Ref sig .tc := ⟨.hbm, 258, rfl⟩
abbrev main_call1_call0_v157 : Ref sig .tc := ⟨.hbm, 259, rfl⟩
abbrev main_call1_call0_v158 : Ref sig .tc := ⟨.hbm, 260, rfl⟩
abbrev main_call1_call0_c_41 : Ref sig .tc := ⟨.hbm, 261, rfl⟩
abbrev main_call1_call0_v159 : Ref sig .tc := ⟨.hbm, 262, rfl⟩
abbrev main_call1_call0_v160 : Ref sig .tc := ⟨.hbm, 263, rfl⟩
abbrev main_call1_call0_v161 : Ref sig .tc := ⟨.hbm, 264, rfl⟩
abbrev main_call1_call0_v162 : Ref sig .tc := ⟨.hbm, 265, rfl⟩
abbrev main_call1_call0_v163 : Ref sig .tc := ⟨.hbm, 266, rfl⟩
abbrev main_call1_call0_c_42 : Ref sig .tc := ⟨.hbm, 267, rfl⟩
abbrev main_call1_call0_v164 : Ref sig .tc := ⟨.hbm, 268, rfl⟩
abbrev main_call1_call0_v165 : Ref sig .tc := ⟨.hbm, 269, rfl⟩
abbrev main_call1_call0_c_43 : Ref sig .tc := ⟨.hbm, 270, rfl⟩
abbrev main_call1_call0_v166 : Ref sig .tc := ⟨.hbm, 271, rfl⟩
abbrev main_call1_call0_v167 : Ref sig .tc := ⟨.hbm, 272, rfl⟩
abbrev main_call1_call0_v168 : Ref sig .tc := ⟨.hbm, 273, rfl⟩
abbrev main_call1_call0_v169 : Ref sig .tc := ⟨.hbm, 274, rfl⟩
abbrev main_call1_call0_v170 : Ref sig .tc := ⟨.hbm, 275, rfl⟩
abbrev main_call1_v23_0 : Ref sig .tc := ⟨.hbm, 276, rfl⟩
abbrev main_call1_call0_v172 : Ref sig .tc := ⟨.hbm, 277, rfl⟩
abbrev main_call1_call0_v173 : Ref sig .tc := ⟨.hbm, 278, rfl⟩
abbrev main_call1_call0_c_44 : Ref sig .tc := ⟨.hbm, 279, rfl⟩
abbrev main_call1_call0_v174 : Ref sig .tc := ⟨.hbm, 280, rfl⟩
abbrev main_call1_v23_1 : Ref sig .tc := ⟨.hbm, 281, rfl⟩
abbrev main_call1_v24 : Ref sig .tc := ⟨.hbm, 282, rfl⟩
abbrev main_call1_c_3 : Ref sig .tc := ⟨.hbm, 283, rfl⟩
abbrev main_call1_v25 : Ref sig .tc := ⟨.hbm, 284, rfl⟩
abbrev main_call1_v26 : Ref sig .tc := ⟨.hbm, 285, rfl⟩
abbrev main_call1_c_4 : Ref sig .tc := ⟨.hbm, 286, rfl⟩
abbrev main_call1_v27 : Ref sig .tc := ⟨.hbm, 287, rfl⟩
abbrev main_call1_v28 : Ref sig .tc := ⟨.hbm, 288, rfl⟩
abbrev main_call1_v29 : Ref sig .tc := ⟨.hbm, 289, rfl⟩
abbrev main_call1_cst : Ref sig .tc := ⟨.hbm, 290, rfl⟩
abbrev main_call1_v30 : Ref sig .tc := ⟨.hbm, 291, rfl⟩
abbrev main_call1_v31 : Ref sig .tc := ⟨.hbm, 292, rfl⟩
abbrev main_call1_v32 : Ref sig .tc := ⟨.hbm, 293, rfl⟩
abbrev main_call1_v33 : Ref sig .tc := ⟨.hbm, 294, rfl⟩
abbrev main_call1_v34 : Ref sig .tc := ⟨.hbm, 295, rfl⟩
abbrev main_call1_v35 : Ref sig .tc := ⟨.hbm, 296, rfl⟩
abbrev main_call1_v36 : Ref sig .tc := ⟨.hbm, 297, rfl⟩
abbrev main_call1_v37 : Ref sig .tc := ⟨.hbm, 298, rfl⟩
abbrev main_v12 : Ref sig .tc := ⟨.hbm, 299, rfl⟩
abbrev main_cst_4 : Ref sig .tc := ⟨.hbm, 300, rfl⟩
abbrev main_v13 : Ref sig .tc := ⟨.hbm, 301, rfl⟩
abbrev main_v14 : Ref sig .tc := ⟨.hbm, 302, rfl⟩
abbrev main_v15 : Ref sig .tc := ⟨.hbm, 303, rfl⟩
abbrev main_v16 : Ref sig .tc := ⟨.hbm, 304, rfl⟩
abbrev main_v17 : Ref sig .tc := ⟨.hbm, 305, rfl⟩
abbrev main_v18 : Ref sig .tc := ⟨.hbm, 306, rfl⟩
abbrev main_v19 : Ref sig .tc := ⟨.hbm, 307, rfl⟩
abbrev main_v20 : Ref sig .tc := ⟨.hbm, 308, rfl⟩
abbrev main_v21 : Ref sig .tc := ⟨.hbm, 309, rfl⟩
abbrev main_call2_v0 : Ref sig .tc := ⟨.hbm, 310, rfl⟩
abbrev main_call2_cst : Ref sig .tc := ⟨.hbm, 311, rfl⟩
abbrev main_call2_c : Ref sig .tc := ⟨.hbm, 312, rfl⟩
abbrev main_call2_v1_0 : Ref sig .tc := ⟨.hbm, 313, rfl⟩
abbrev main_v22 : Ref sig .tc := ⟨.hbm, 314, rfl⟩

abbrev nD : Nat := 1
abbrev τ : Topo := Topo.v7x

variable {F : FTy → Type} [FloatOps F]
-- ==== Proof.Point.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- Row `k` of a stack of five, with the other four rows dropped. -/
def slab {e : EltTy} (k : Fin 5) (x : Vec F S5x128x1 e) : Vec F S1x128x1 e :=
  fun j => x (fun a => match a with | ⟨0, _⟩ => k | ⟨1, _⟩ => j 1 | ⟨2, _⟩ => j 2)

/-- Five rows, one above the other. -/
def stack {e : EltTy} (p : Fin 5 → Vec F S1x128x1 e) : Vec F S5x128x1 e :=
  fun j => p (j 0) (fun a => match a with | ⟨0, _⟩ => (0 : Fin 1) | ⟨1, _⟩ => j 1 | ⟨2, _⟩ => j 2)

theorem stack_slab {e : EltTy} (x : Vec F S5x128x1 e) : stack (fun k => slab k x) = x :=
  funext fun j => congrArg x (funext fun a => match a with | ⟨0, _⟩ => rfl | ⟨1, _⟩ => rfl | ⟨2, _⟩ => rfl)

theorem slab_stack {e : EltTy} (p : Fin 5 → Vec F S1x128x1 e) (k : Fin 5) : slab k (stack p) = p k :=
  funext fun j => congrArg (p k) (funext fun a => match a with
    | ⟨0, _⟩ => (Fin.ext (Nat.lt_one_iff.mp (j 0).isLt).symm : (0 : Fin 1) = j 0) | ⟨1, _⟩ => rfl | ⟨2, _⟩ => rfl)

/-- What the scratch holds between points: the running maximum, the two running sums, and per draw the best
    candidate seen and its column. -/
structure St (F : FTy → Type) where
  m : Vec F S128x1 .f32
  z : Vec F S128x1 .f32
  a : Vec F S128x1 .f32
  bv : Vec F S5x128x1 .f32
  bi : Vec F S5x128x1 .i32

/-- The scratch as the first point sets it. -/
def St.init : St F := ⟨k1_pay4, k1_pay5, k1_pay6, k1_pay7, k1_pay8⟩

/-- The best candidate of one draw after a block of scores `v` with noise `T`. -/
def bvNext (v : Vec F S128x2048 .f32) (T : Vec F S1x128x2048 .f32) (b : Vec F S1x128x1 .f32) : Vec F S1x128x1 .f32 :=
  k1_pay23 v T b b

/-- The column of that candidate. -/
def biNext (col : IVec S128x2048 32) (v : Vec F S128x2048 .f32) (T : Vec F S1x128x2048 .f32) (b : Vec F S1x128x1 .f32)
    (n : Vec F S1x128x1 .i32) : Vec F S1x128x1 .i32 :=
  k1_pay30 col v T b n

/-! The five draws are spelled over different cuts of the program text and compute the same two functions. -/

section Draws

variable (col : IVec S128x2048 32) (v : Vec F S128x2048 .f32) (T : Vec F S1x128x2048 .f32) (b : Vec F S1x128x1 .f32) (n : Vec F S1x128x1 .i32)

theorem best_0 : k1_pay23 v T b b = bvNext v T b := rfl
theorem best_1 : k1_pay29 v T b b = bvNext v T b := rfl
theorem best_2 : k1_pay34 (k1_pay31 v T) b b = bvNext v T b := rfl
theorem best_3 : k1_pay40 (k1_pay37 v T) b b = bvNext v T b := rfl
theorem best_4 : k1_pay1 (k1_pay46 v T b b) = bvNext v T b := rfl
theorem where_0 : k1_pay25 (k1_pay24 col v T b n) = biNext col v T b n := rfl
theorem where_1 : k1_pay30 col v T b n = biNext col v T b n := rfl
theorem where_2 : k1_pay35 col (k1_pay31 v T) b n = biNext col v T b n := rfl
theorem where_3 : k1_pay41 (k1_pay37 v T) (k1_pay38 col v T) b n = biNext col v T b n := rfl
theorem where_4 : k1_pay2 (k1_pay44 col v T) (k1_pay45 v T b) n = biNext col v T b n := rfl

end Draws

/-- One point: the scratch after block `x` of the logits and the five blocks `T` of noise. -/
def St.next (i : grid1.Coords) (x : Vec F S128x2048 .f32) (T : Fin 5 → Vec F S1x128x2048 .f32) (s : St F) : St F where
  m := k1_pay19 (k1_pay12 i x s.m)
  z := k1_pay15 i x s.m s.z
  a := k1_pay18 (k1_pay16 i x s.m s.a) (k1_pay17 i x s.m)
  bv := stack fun k => bvNext (k1_pay11 i x) (T k) (slab k s.bv)
  bi := stack fun k => biNext (k1_pay9 i) (k1_pay11 i x) (T k) (slab k s.bv) (slab k s.bi)

/-- The entropy read off the scratch. -/
def St.ent (s : St F) : Vec F S128x1 .f32 := k1_pay3 s.z s.m s.a

/-! ## Loads and stores of one row of a stack -/

section Rows

variable {sp : Space} {e : EltTy} (v : View sig .tc sp S5x128x1 e) (f : v.ty.Contents (Elt F))

/-- The row `k` of a stack of five as a rectangle. -/
abbrev rowOff (k : Fin 5) : Fin S5x128x1.rank → ℕ := ![k.val, 0, 0]

theorem readAt_row (k : Fin 5) {off : Fin S5x128x1.rank → ℕ} (inb : ∀ a, off a + S1x128x1.size a ≤ S5x128x1.size a) (h : off = rowOff k) :
    v.readAt (Elt F) (Rect.unit (s := S5x128x1) off S1x128x1.size inb).toLoadRect f = slab k (v.read (Elt F) f) := by
  subst h
  funext j
  refine congrArg (v.read (Elt F) f) (funext fun a => Fin.ext ?_)
  match a with
  | ⟨0, _⟩ =>
    show k.val + 1 * (j 0).val = k.val
    have : (j 0).val < 1 := (j 0).isLt
    omega
  | ⟨1, _⟩ => show 0 + 1 * (j 1).val = (j 1).val; omega
  | ⟨2, _⟩ => show 0 + 1 * (j 2).val = (j 2).val; omega

theorem slab_writes_hit (k : Fin 5) {off : Fin S5x128x1.rank → ℕ} (inb : ∀ a, off a + S1x128x1.size a ≤ S5x128x1.size a) (h : off = rowOff k)
    (w : Vec F S1x128x1 e) (L : List (View.Piece (Elt F) S5x128x1 e)) :
    slab k (v.read (Elt F) (v.writes (Elt F) f (⟨Rect.unit (s := S5x128x1) off S1x128x1.size inb, w⟩ :: L))) = w := by
  funext j
  refine View.read_writes_cons_unit_of_mem v f inb w L _ j h fun a => ?_
  match a with
  | ⟨0, _⟩ =>
    show k.val = k.val + (j 0).val
    have : (j 0).val < 1 := (j 0).isLt
    omega
  | ⟨1, _⟩ => show (j 1).val = 0 + (j 1).val; omega
  | ⟨2, _⟩ => show (j 2).val = 0 + (j 2).val; omega

theorem slab_writes_miss (k n : Fin 5) {off : Fin S5x128x1.rank → ℕ} (inb : ∀ a, off a + S1x128x1.size a ≤ S5x128x1.size a) (h : off = rowOff n)
    (hk : k ≠ n) (w : Vec F S1x128x1 e) (L : List (View.Piece (Elt F) S5x128x1 e)) :
    slab k (v.read (Elt F) (v.writes (Elt F) f (⟨Rect.unit (s := S5x128x1) off S1x128x1.size inb, w⟩ :: L)))
      = slab k (v.read (Elt F) (v.writes (Elt F) f L)) := by
  funext j
  refine View.read_writes_cons_unit_of_not_mem v f inb w L _ h 0 ?_
  show k.val < n.val ∨ n.val + 1 ≤ k.val
  have : k.val ≠ n.val := fun e => hk (Fin.ext e)
  omega

/-- A load of what a list of stores leaves, read off the stores. -/
theorem readCov_eq {s : Shape} (v : View sig .tc sp s e) (L : List (View.Piece (Elt F) s e)) (r : LoadRect s) :
    v.readCov L r = v.readAt (Elt F) r (v.writes (Elt F) v.junk L) := rfl

/-- A stack is known by its five rows. -/
theorem ext_stack {x : Vec F S5x128x1 e} {p : Fin 5 → Vec F S1x128x1 e} (h0 : slab 0 x = p 0) (h1 : slab 1 x = p 1)
    (h2 : slab 2 x = p 2) (h3 : slab 3 x = p 3) (h4 : slab 4 x = p 4) : x = stack p := by
  rw [← stack_slab x]
  refine congrArg stack (funext fun k => ?_)
  match k with
  | 0 => exact h0
  | 1 => exact h1
  | 2 => exact h2
  | 3 => exact h3
  | 4 => exact h4

/-- A whole load and a whole store of a column. -/
theorem load_col (v : View sig .tc sp S128x1 e) (f : v.ty.Contents (Elt F)) :
    v.readAt (Elt F) (Rect.unit (s := S128x1) ![0, 0] ![128, 1] inb_S128x1_S128x1_0_0).toLoadRect f = v.read (Elt F) f :=
  View.readAt_full v f inb_S128x1_S128x1_0_0

theorem store_col (v : View sig .tc sp S128x1 e) (f : v.ty.Contents (Elt F)) (w : Vec F S128x1 e) (L : List (View.Piece (Elt F) S128x1 e)) :
    v.read (Elt F) (v.writes (Elt F) f (⟨Rect.unit (s := S128x1) ![0, 0] ![128, 1] inb_S128x1_S128x1_0_0, w⟩ :: L)) = w :=
  View.read_writes_full v f inb_S128x1_S128x1_0_0 w L

/-- A whole load and a whole store of a block of logits. -/
theorem load_blk (v : View sig .tc sp S128x2048 e) (f : v.ty.Contents (Elt F)) :
    v.readAt (Elt F) (Rect.unit (s := S128x2048) ![0, 0] ![128, 2048] inb_S128x2048_S128x2048_0_0).toLoadRect f = v.read (Elt F) f :=
  View.readAt_full v f inb_S128x2048_S128x2048_0_0

theorem store_blk (v : View sig .tc sp S128x2048 e) (f : v.ty.Contents (Elt F)) (w : Vec F S128x2048 e) (L : List (View.Piece (Elt F) S128x2048 e)) :
    v.read (Elt F) (v.writes (Elt F) f (⟨Rect.unit (s := S128x2048) ![0, 0] ![128, 2048] inb_S128x2048_S128x2048_0_0, w⟩ :: L)) = w :=
  View.read_writes_full v f inb_S128x2048_S128x2048_0_0 w L

/-- A whole load and a whole store of a block of noise. -/
theorem load_tab (v : View sig .tc sp S1x128x2048 e) (f : v.ty.Contents (Elt F)) :
    v.readAt (Elt F) (Rect.unit (s := S1x128x2048) ![0, 0, 0] ![1, 128, 2048] inb_S1x128x2048_S1x128x2048_0_0_0).toLoadRect f = v.read (Elt F) f :=
  View.readAt_full v f inb_S1x128x2048_S1x128x2048_0_0_0

theorem store_tab (v : View sig .tc sp S1x128x2048 e) (f : v.ty.Contents (Elt F)) (w : Vec F S1x128x2048 e) (L : List (View.Piece (Elt F) S1x128x2048 e)) :
    v.read (Elt F) (v.writes (Elt F) f (⟨Rect.unit (s := S1x128x2048) ![0, 0, 0] ![1, 128, 2048] inb_S1x128x2048_S1x128x2048_0_0_0, w⟩ :: L)) = w :=
  View.read_writes_full v f inb_S1x128x2048_S1x128x2048_0_0_0 w L

/-- A whole load and a whole store of a stack. -/
theorem load_stack (v : View sig .tc sp S5x128x1 e) (f : v.ty.Contents (Elt F)) :
    v.readAt (Elt F) (Rect.unit (s := S5x128x1) ![0, 0, 0] ![5, 128, 1] inb_S5x128x1_S5x128x1_0_0_0).toLoadRect f = v.read (Elt F) f :=
  View.readAt_full v f inb_S5x128x1_S5x128x1_0_0_0

theorem store_stack (v : View sig .tc sp S5x128x1 e) (f : v.ty.Contents (Elt F)) (w : Vec F S5x128x1 e) (L : List (View.Piece (Elt F) S5x128x1 e)) :
    v.read (Elt F) (v.writes (Elt F) f (⟨Rect.unit (s := S5x128x1) ![0, 0, 0] ![5, 128, 1] inb_S5x128x1_S5x128x1_0_0_0, w⟩ :: L)) = w :=
  View.read_writes_full v f inb_S5x128x1_S5x128x1_0_0_0 w L

end Rows

abbrev cFirst (i : grid1.Coords) : Prop := (Scalar.cmpi .ne (Scalar.extui (Scalar.cmpi .eq (BitVec.ofNat 32 (i 0).val) 0#32)) 0#32) = 1#1
abbrev cLast (i : grid1.Coords) : Prop := k1_cond2 i = 1#1

end Cert.KernelIdeal.Gen

end
-- ==== Proof.BodyTable.lean ====
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point of the first call writes

One block of noise per draw. Each is the chain of cuts the program text makes of that draw. -/

/-- Draw 0's block of noise at point `i`. -/
def noise0 (i : grid0.Coords) : Vec F S1x128x2048 .f32 :=
  let v87 := k0_pay25 (k0_pay12 i) (k0_pay13 i) k0_pay14
  let v88 := k0_pay26 (k0_pay12 i) (k0_pay13 i) k0_pay14
  let v129 := k0_pay36 v87 v88 15#32
  let v134 := k0_pay37 v87 v88 15#32
  k0_pay51 (k0_pay48 v129 v134) (k0_pay49 v129 v134) k0_pay50

/-- Draw 1's block of noise at point `i`. -/
def noise1 (i : grid0.Coords) : Vec F S1x128x2048 .f32 :=
  let v218 := k0_pay54 (k0_pay2 i) k0_pay3
  let v219 := k0_pay55 (k0_pay2 i) k0_pay3
  let v260 := k0_pay66 v218 v219 k0_pay56
  let v266 := k0_pay67 v218 v219 k0_pay56
  let v309 := k0_pay77 v260 v266
  let v311 := k0_pay78 v260 v266
  k0_pay94 (k0_pay92 (k0_pay89 v309 v311) (k0_pay90 v309 v311) k0_pay91) k0_pay93

/-- Draw 2's block of noise at point `i`. -/
def noise2 (i : grid0.Coords) : Vec F S1x128x2048 .f32 :=
  let v440 := k0_pay103 (k0_pay2 i) k0_pay3
  let v442 := k0_pay104 (k0_pay2 i) k0_pay3
  let v485 := k0_pay115 v440 v442 1#32
  let v486 := k0_pay116 v440 v442 1#32
  let v488 := k0_pay117 v440 v442 1#32
  let v533 := k0_pay128 v485 v486 v488
  let v534 := k0_pay129 v485 v486 v488
  k0_pay140 (k0_pay138 v533 v534) (k0_pay139 v533 v534) 5#32

/-- Draw 3's block of noise at point `i`. -/
def noise3 (i : grid0.Coords) : Vec F S1x128x2048 .f32 :=
  let v616 := k0_pay143 (k0_pay2 i) k0_pay3
  let v617 := k0_pay144 (k0_pay2 i) k0_pay3
  let v619 := k0_pay145 (k0_pay2 i) k0_pay3
  let v664 := k0_pay156 v616 v617 v619 17#32
  let v665 := k0_pay157 v616 v617 v619 17#32
  let v707 := k0_pay166 v664 v665 24#32
  let v709 := k0_pay167 v664 v665 24#32
  k0_pay183 (k0_pay182 (k0_pay179 v707 v709 k0_pay168) (k0_pay180 v707 v709 k0_pay168) (k0_pay181 v707 v709 k0_pay168) 17#32)

/-- Draw 4's block of noise at point `i`. -/
def noise4 (i : grid0.Coords) : Vec F S1x128x2048 .f32 :=
  let v838 := k0_pay192 (k0_pay2 i) k0_pay3
  let v842 := k0_pay193 (k0_pay2 i) k0_pay3
  let v883 := k0_pay203 v838 v842
  let v884 := k0_pay204 v838 v842
  let v886 := k0_pay205 v838 v842
  let v931 := k0_pay217 v883 v884 v886 k0_pay206
  let v932 := k0_pay218 v883 v884 v886 k0_pay206
  k0_pay1 (k0_pay228 v931 v932 k0_pay219) (k0_pay229 v931 v932 k0_pay219)

set_option maxHeartbeats 3200000 in
/-- A point of the first call stores the five blocks of noise. -/
theorem body_table (𝒱₀ : Variants) (c : Dev nD) (i : grid0.Coords) (arg1 : Memref sig .tc .vmem S1x128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole)
    (x1 x2 x3 x4 x5 : Vec F S1x128x2048 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (iprop(owns (c : Thread nD τ) arg1 fullShare (noise0 i) ∗ owns (c : Thread nD τ) arg2 fullShare (noise1 i) ∗ owns (c : Thread nD τ) arg3 fullShare (noise2 i) ∗ owns (c : Thread nD τ) arg4 fullShare (noise3 i) ∗ owns (c : Thread nD τ) arg5 fullShare (noise4 i)) -∗ K ⟨⟩))
      ⊢ wp frame (wpE (defs₀ (F := F)) 𝒱₀ c none) E (cc0__table_body i arg1 harg1 arg2 harg2 arg3 harg3 arg4 harg4 arg5 harg5) K := by
  simp only [cc0__table_body_eq_skeleton]; unfold cc0__table_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H1]
  · iexists _; isplitr; rotate_left
    · iexact H1
    ipureintro
    exact store_tab _ _ _ _
  isplitl [H2]
  · iexists _; isplitr; rotate_left
    · iexact H2
    ipureintro
    exact store_tab _ _ _ _
  isplitl [H3]
  · iexists _; isplitr; rotate_left
    · iexact H3
    ipureintro
    exact store_tab _ _ _ _
  isplitl [H4]
  · iexists _; isplitr; rotate_left
    · iexact H4
    ipureintro
    exact store_tab _ _ _ _
  iexists _; isplitr; rotate_left
  · iexact H5
  ipureintro
  exact store_tab _ _ _ _

end Cert.KernelIdeal.Gen

end
-- ==== Proof.Region0.lean ====
module

public import proofs.«01_k».proof.Proof.BodyTable

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Dev nD → Valuation τ sig (Elt F))

/-- The first call's region entered with the arrays at `V`: each point leaves the five blocks of noise in the five
    output buffers; nothing is carried between points. -/
def dat0 (c : Dev nD) : Dat τ (Elt F) Unit ℕ (UR sig nD τ) ℕ cfg0 c where
  A w := V c (Proc.devRef .tc (Pipeline.arrRef spec0 w))
  after w t := match w with
    | ⟨0, _⟩ => noise0 (grid0.coords t)
    | ⟨1, _⟩ => noise1 (grid0.coords t)
    | ⟨2, _⟩ => noise2 (grid0.coords t)
    | ⟨3, _⟩ => noise3 (grid0.coords t)
    | ⟨4, _⟩ => noise4 (grid0.coords t)
  Φ _ := Pipeline.scopedRest spec0 c
  q _ := fullShare
  owed _ := 0

theorem row0 (t : Fin cfg0.N) : defs₀ (F := F) .tc cfg0.body (cfg0.bodyArgs t (cfg0.slots t)) = bodyAt0 t := by
  unfold defs₀; rw [Defs.onTc_tc]

/-- The body of the first call does at every point what the region's data say. -/
theorem obligation0 (c : Dev nD) : BodyObligation (dat0 V c) (defs₀ (F := F)) Variants.none () Set.univ := fun t => by
  rw [bigSep_W0, bigSep_W0, row0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  iapply (body_table Variants.none c (grid0.coords t) _ _ _ _ _ _ _ _ _ _ _ _ _ _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Gen

end
-- ==== Proof.BodyFirst.lean ====
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The first point: the state starts afresh and moves on by the first block. -/
theorem body_first (𝒱₀ : Variants) (c : Dev nD) (i : grid1.Coords) (arg1 : Memref sig .tc .vmem S128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S128x1 .f32) (harg8 : arg8.IsWhole) (arg9 : Memref sig .tc .vmem S5x128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S5x128x1 .f32) (harg13 : arg13.IsWhole) (arg14 : Memref sig .tc .vmem S5x128x1 .i32) (harg14 : arg14.IsWhole) (hc0 : cFirst i) (hc1 : ¬cLast i)
    (x1 : Vec F S128x2048 .f32) (x2 : Vec F S1x128x2048 .f32) (x3 : Vec F S1x128x2048 .f32) (x4 : Vec F S1x128x2048 .f32) (x5 : Vec F S1x128x2048 .f32) (x6 : Vec F S1x128x2048 .f32) (x7 : Vec F S128x2048 .f32) (x8 : Vec F S128x1 .f32) (x9 : Vec F S5x128x1 .i32) (x10 : Vec F S128x1 .f32) (x11 : Vec F S128x1 .f32) (x12 : Vec F S128x1 .f32) (x13 : Vec F S5x128x1 .f32) (x14 : Vec F S5x128x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x1 ∗ owns (c : Thread nD τ) arg8 fullShare x8 ∗ owns (c : Thread nD τ) arg9 fullShare x9 ∗ owns (c : Thread nD τ) arg10 fullShare (St.next i x1 ![x2, x3, x4, x5, x6] St.init).m ∗ owns (c : Thread nD τ) arg11 fullShare (St.next i x1 ![x2, x3, x4, x5, x6] St.init).z ∗ owns (c : Thread nD τ) arg12 fullShare (St.next i x1 ![x2, x3, x4, x5, x6] St.init).a ∗ owns (c : Thread nD τ) arg13 fullShare (St.next i x1 ![x2, x3, x4, x5, x6] St.init).bv ∗ owns (c : Thread nD τ) arg14 fullShare (St.next i x1 ![x2, x3, x4, x5, x6] St.init).bi) -∗ K ⟨⟩))
      ⊢ wp frame (wpE (defs₀ (F := F)) 𝒱₀ c none) E (cc1__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__body_eq_skeleton]; unfold cc1__body_skel
  simp only [k1_part1_eq_skeleton, k1_part2_eq_skeleton, k1_part3_eq_skeleton, k1_part4_eq_skeleton, k1_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr; rotate_left
    · iexact H7
    ipureintro
    simp only [readCov_eq, load_col, store_col, load_blk, store_blk, load_tab, store_tab, load_stack, store_stack, Memref.IsWhole.read_unread]; try rfl
  isplitl [H8]
  · iexists _; isplitr
    · ipureintro; exact harg8.read_unread _
    iexact H8
  isplitl [H9]
  · iexists _; isplitr
    · ipureintro; exact harg9.read_unread _
    iexact H9
  isplitl [H10]
  · iexists _; isplitr; rotate_left
    · iexact H10
    ipureintro
    (try delta body_first.sl.H10_1 body_first.sl.H11_1 body_first.sl.H12_1 body_first.sl.H13_1 body_first.sl.H13_2 body_first.sl.H13_3 body_first.sl.H13_4 body_first.sl.H13_5 body_first.sl.H14_1 body_first.sl.H14_2 body_first.sl.H14_3 body_first.sl.H14_4 body_first.sl.H14_5 body_first.sl.r body_first.sl.r_1 body_first.sl.r_10 body_first.sl.r_2 body_first.sl.r_3 body_first.sl.r_4 body_first.sl.r_5 body_first.sl.r_6 body_first.sl.r_7 body_first.sl.r_8 body_first.sl.r_9 body_first.sl.v0 body_first.sl.v1 body_first.sl.v107 body_first.sl.v116 body_first.sl.v133 body_first.sl.v142 body_first.sl.v15 body_first.sl.v159 body_first.sl.v168 body_first.sl.v2 body_first.sl.v24 body_first.sl.v32 body_first.sl.v55 body_first.sl.v64 body_first.sl.v81 body_first.sl.v90); simp only [readCov_eq, load_col, store_col, load_blk, store_blk, load_tab, store_tab, load_stack, store_stack, Memref.IsWhole.read_unread]; try rfl
  isplitl [H11]
  · iexists _; isplitr; rotate_left
    · iexact H11
    ipureintro
    (try delta body_first.sl.H10_1 body_first.sl.H11_1 body_first.sl.H12_1 body_first.sl.H13_1 body_first.sl.H13_2 body_first.sl.H13_3 body_first.sl.H13_4 body_first.sl.H13_5 body_first.sl.H14_1 body_first.sl.H14_2 body_first.sl.H14_3 body_first.sl.H14_4 body_first.sl.H14_5 body_first.sl.r body_first.sl.r_1 body_first.sl.r_10 body_first.sl.r_2 body_first.sl.r_3 body_first.sl.r_4 body_first.sl.r_5 body_first.sl.r_6 body_first.sl.r_7 body_first.sl.r_8 body_first.sl.r_9 body_first.sl.v0 body_first.sl.v1 body_first.sl.v107 body_first.sl.v116 body_first.sl.v133 body_first.sl.v142 body_first.sl.v15 body_first.sl.v159 body_first.sl.v168 body_first.sl.v2 body_first.sl.v24 body_first.sl.v32 body_first.sl.v55 body_first.sl.v64 body_first.sl.v81 body_first.sl.v90); simp only [readCov_eq, load_col, store_col, load_blk, store_blk, load_tab, store_tab, load_stack, store_stack, Memref.IsWhole.read_unread]; try rfl
  isplitl [H12]
  · iexists _; isplitr; rotate_left
    · iexact H12
    ipureintro
    (try delta body_first.sl.H10_1 body_first.sl.H11_1 body_first.sl.H12_1 body_first.sl.H13_1 body_first.sl.H13_2 body_first.sl.H13_3 body_first.sl.H13_4 body_first.sl.H13_5 body_first.sl.H14_1 body_first.sl.H14_2 body_first.sl.H14_3 body_first.sl.H14_4 body_first.sl.H14_5 body_first.sl.r body_first.sl.r_1 body_first.sl.r_10 body_first.sl.r_2 body_first.sl.r_3 body_first.sl.r_4 body_first.sl.r_5 body_first.sl.r_6 body_first.sl.r_7 body_first.sl.r_8 body_first.sl.r_9 body_first.sl.v0 body_first.sl.v1 body_first.sl.v107 body_first.sl.v116 body_first.sl.v133 body_first.sl.v142 body_first.sl.v15 body_first.sl.v159 body_first.sl.v168 body_first.sl.v2 body_first.sl.v24 body_first.sl.v32 body_first.sl.v55 body_first.sl.v64 body_first.sl.v81 body_first.sl.v90); simp only [readCov_eq, load_col, store_col, load_blk, store_blk, load_tab, store_tab, load_stack, store_stack, Memref.IsWhole.read_unread]; try rfl
  isplitl [H13]
  · iexists _; isplitr; rotate_left
    · iexact H13
    ipureintro
    delta body_first.sl.H10_1 body_first.sl.H11_1 body_first.sl.H12_1 body_first.sl.H13_1 body_first.sl.H13_2 body_first.sl.H13_3 body_first.sl.H13_4 body_first.sl.H13_5 body_first.sl.H14_1 body_first.sl.H14_2 body_first.sl.H14_3 body_first.sl.H14_4 body_first.sl.H14_5 body_first.sl.r body_first.sl.r_1 body_first.sl.r_10 body_first.sl.r_2 body_first.sl.r_3 body_first.sl.r_4 body_first.sl.r_5 body_first.sl.r_6 body_first.sl.r_7 body_first.sl.r_8 body_first.sl.r_9 body_first.sl.v0 body_first.sl.v1 body_first.sl.v107 body_first.sl.v116 body_first.sl.v133 body_first.sl.v142 body_first.sl.v15 body_first.sl.v159 body_first.sl.v168 body_first.sl.v2 body_first.sl.v24 body_first.sl.v32 body_first.sl.v55 body_first.sl.v64 body_first.sl.v81 body_first.sl.v90; refine ext_stack (p := fun k => bvNext (k1_pay11 i x1) (![x2, x3, x4, x5, x6] k) (slab k St.init.bv)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)
  · iexists _; isplitr; rotate_left
    · iexact H14
    ipureintro
    delta body_first.sl.H10_1 body_first.sl.H11_1 body_first.sl.H12_1 body_first.sl.H13_1 body_first.sl.H13_2 body_first.sl.H13_3 body_first.sl.H13_4 body_first.sl.H13_5 body_first.sl.H14_1 body_first.sl.H14_2 body_first.sl.H14_3 body_first.sl.H14_4 body_first.sl.H14_5 body_first.sl.r body_first.sl.r_1 body_first.sl.r_10 body_first.sl.r_2 body_first.sl.r_3 body_first.sl.r_4 body_first.sl.r_5 body_first.sl.r_6 body_first.sl.r_7 body_first.sl.r_8 body_first.sl.r_9 body_first.sl.v0 body_first.sl.v1 body_first.sl.v107 body_first.sl.v116 body_first.sl.v133 body_first.sl.v142 body_first.sl.v15 body_first.sl.v159 body_first.sl.v168 body_first.sl.v2 body_first.sl.v24 body_first.sl.v32 body_first.sl.v55 body_first.sl.v64 body_first.sl.v81 body_first.sl.v90; refine ext_stack (p := fun k => biNext (k1_pay9 i) (k1_pay11 i x1) (![x2, x3, x4, x5, x6] k) (slab k St.init.bv) (slab k St.init.bi)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)

end Cert.KernelIdeal.Gen

end
-- ==== Proof.BodyMid.lean ====
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- A point that is neither the first nor the last: the state moves on by one block of logits. -/
theorem body_mid (𝒱₀ : Variants) (c : Dev nD) (i : grid1.Coords) (arg1 : Memref sig .tc .vmem S128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S128x1 .f32) (harg8 : arg8.IsWhole) (arg9 : Memref sig .tc .vmem S5x128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S5x128x1 .f32) (harg13 : arg13.IsWhole) (arg14 : Memref sig .tc .vmem S5x128x1 .i32) (harg14 : arg14.IsWhole) (hc0 : ¬cFirst i) (hc1 : ¬cLast i)
    (x1 : Vec F S128x2048 .f32) (x2 : Vec F S1x128x2048 .f32) (x3 : Vec F S1x128x2048 .f32) (x4 : Vec F S1x128x2048 .f32) (x5 : Vec F S1x128x2048 .f32) (x6 : Vec F S1x128x2048 .f32) (x7 : Vec F S128x2048 .f32) (x8 : Vec F S128x1 .f32) (x9 : Vec F S5x128x1 .i32) (s : St F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.m ∗ owns (c : Thread nD τ) arg11 fullShare s.z ∗ owns (c : Thread nD τ) arg12 fullShare s.a ∗ owns (c : Thread nD τ) arg13 fullShare s.bv ∗ owns (c : Thread nD τ) arg14 fullShare s.bi ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x1 ∗ owns (c : Thread nD τ) arg8 fullShare x8 ∗ owns (c : Thread nD τ) arg9 fullShare x9 ∗ owns (c : Thread nD τ) arg10 fullShare (St.next i x1 ![x2, x3, x4, x5, x6] s).m ∗ owns (c : Thread nD τ) arg11 fullShare (St.next i x1 ![x2, x3, x4, x5, x6] s).z ∗ owns (c : Thread nD τ) arg12 fullShare (St.next i x1 ![x2, x3, x4, x5, x6] s).a ∗ owns (c : Thread nD τ) arg13 fullShare (St.next i x1 ![x2, x3, x4, x5, x6] s).bv ∗ owns (c : Thread nD τ) arg14 fullShare (St.next i x1 ![x2, x3, x4, x5, x6] s).bi) -∗ K ⟨⟩))
      ⊢ wp frame (wpE (defs₀ (F := F)) 𝒱₀ c none) E (cc1__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__body_eq_skeleton]; unfold cc1__body_skel
  simp only [k1_part1_eq_skeleton, k1_part2_eq_skeleton, k1_part3_eq_skeleton, k1_part4_eq_skeleton, k1_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr; rotate_left
    · iexact H7
    ipureintro
    simp only [readCov_eq, load_col, store_col, load_blk, store_blk, load_tab, store_tab, load_stack, store_stack, Memref.IsWhole.read_unread]; try rfl
  isplitl [H8]
  · iexists _; isplitr
    · ipureintro; exact harg8.read_unread _
    iexact H8
  isplitl [H9]
  · iexists _; isplitr
    · ipureintro; exact harg9.read_unread _
    iexact H9
  isplitl [H10]
  · iexists _; isplitr; rotate_left
    · iexact H10
    ipureintro
    (try delta body_mid.sl.r body_mid.sl.r_1 body_mid.sl.r_10 body_mid.sl.r_2 body_mid.sl.r_3 body_mid.sl.r_4 body_mid.sl.r_5 body_mid.sl.r_6 body_mid.sl.r_7 body_mid.sl.r_8 body_mid.sl.r_9 body_mid.sl.v0 body_mid.sl.v1 body_mid.sl.v107 body_mid.sl.v116 body_mid.sl.v133 body_mid.sl.v142 body_mid.sl.v159 body_mid.sl.v168 body_mid.sl.v2 body_mid.sl.v81 body_mid.sl.v90); simp only [readCov_eq, load_col, store_col, load_blk, store_blk, load_tab, store_tab, load_stack, store_stack, Memref.IsWhole.read_unread]; try rfl
  isplitl [H11]
  · iexists _; isplitr; rotate_left
    · iexact H11
    ipureintro
    (try delta body_mid.sl.r body_mid.sl.r_1 body_mid.sl.r_10 body_mid.sl.r_2 body_mid.sl.r_3 body_mid.sl.r_4 body_mid.sl.r_5 body_mid.sl.r_6 body_mid.sl.r_7 body_mid.sl.r_8 body_mid.sl.r_9 body_mid.sl.v0 body_mid.sl.v1 body_mid.sl.v107 body_mid.sl.v116 body_mid.sl.v133 body_mid.sl.v142 body_mid.sl.v159 body_mid.sl.v168 body_mid.sl.v2 body_mid.sl.v81 body_mid.sl.v90); simp only [readCov_eq, load_col, store_col, load_blk, store_blk, load_tab, store_tab, load_stack, store_stack, Memref.IsWhole.read_unread]; try rfl
  isplitl [H12]
  · iexists _; isplitr; rotate_left
    · iexact H12
    ipureintro
    (try delta body_mid.sl.r body_mid.sl.r_1 body_mid.sl.r_10 body_mid.sl.r_2 body_mid.sl.r_3 body_mid.sl.r_4 body_mid.sl.r_5 body_mid.sl.r_6 body_mid.sl.r_7 body_mid.sl.r_8 body_mid.sl.r_9 body_mid.sl.v0 body_mid.sl.v1 body_mid.sl.v107 body_mid.sl.v116 body_mid.sl.v133 body_mid.sl.v142 body_mid.sl.v159 body_mid.sl.v168 body_mid.sl.v2 body_mid.sl.v81 body_mid.sl.v90); simp only [readCov_eq, load_col, store_col, load_blk, store_blk, load_tab, store_tab, load_stack, store_stack, Memref.IsWhole.read_unread]; try rfl
  isplitl [H13]
  · iexists _; isplitr; rotate_left
    · iexact H13
    ipureintro
    delta body_mid.sl.r body_mid.sl.r_1 body_mid.sl.r_10 body_mid.sl.r_2 body_mid.sl.r_3 body_mid.sl.r_4 body_mid.sl.r_5 body_mid.sl.r_6 body_mid.sl.r_7 body_mid.sl.r_8 body_mid.sl.r_9 body_mid.sl.v0 body_mid.sl.v1 body_mid.sl.v107 body_mid.sl.v116 body_mid.sl.v133 body_mid.sl.v142 body_mid.sl.v159 body_mid.sl.v168 body_mid.sl.v2 body_mid.sl.v81 body_mid.sl.v90; refine ext_stack (p := fun k => bvNext (k1_pay11 i x1) (![x2, x3, x4, x5, x6] k) (slab k s.bv)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)
  · iexists _; isplitr; rotate_left
    · iexact H14
    ipureintro
    delta body_mid.sl.r body_mid.sl.r_1 body_mid.sl.r_10 body_mid.sl.r_2 body_mid.sl.r_3 body_mid.sl.r_4 body_mid.sl.r_5 body_mid.sl.r_6 body_mid.sl.r_7 body_mid.sl.r_8 body_mid.sl.r_9 body_mid.sl.v0 body_mid.sl.v1 body_mid.sl.v107 body_mid.sl.v116 body_mid.sl.v133 body_mid.sl.v142 body_mid.sl.v159 body_mid.sl.v168 body_mid.sl.v2 body_mid.sl.v81 body_mid.sl.v90; refine ext_stack (p := fun k => biNext (k1_pay9 i) (k1_pay11 i x1) (![x2, x3, x4, x5, x6] k) (slab k s.bv) (slab k s.bi)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)

end Cert.KernelIdeal.Gen

end
-- ==== Proof.BodyLast.lean ====
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The last point: the state moves on, and the entropies and the samples are stored. -/
theorem body_last (𝒱₀ : Variants) (c : Dev nD) (i : grid1.Coords) (arg1 : Memref sig .tc .vmem S128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S128x1 .f32) (harg8 : arg8.IsWhole) (arg9 : Memref sig .tc .vmem S5x128x1 .i32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S5x128x1 .f32) (harg13 : arg13.IsWhole) (arg14 : Memref sig .tc .vmem S5x128x1 .i32) (harg14 : arg14.IsWhole) (hc0 : ¬cFirst i) (hc1 : cLast i)
    (x1 : Vec F S128x2048 .f32) (x2 : Vec F S1x128x2048 .f32) (x3 : Vec F S1x128x2048 .f32) (x4 : Vec F S1x128x2048 .f32) (x5 : Vec F S1x128x2048 .f32) (x6 : Vec F S1x128x2048 .f32) (x7 : Vec F S128x2048 .f32) (x8 : Vec F S128x1 .f32) (x9 : Vec F S5x128x1 .i32) (s : St F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.m ∗ owns (c : Thread nD τ) arg11 fullShare s.z ∗ owns (c : Thread nD τ) arg12 fullShare s.a ∗ owns (c : Thread nD τ) arg13 fullShare s.bv ∗ owns (c : Thread nD τ) arg14 fullShare s.bi ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x1 ∗ owns (c : Thread nD τ) arg8 fullShare (St.next i x1 ![x2, x3, x4, x5, x6] s).ent ∗ owns (c : Thread nD τ) arg9 fullShare (St.next i x1 ![x2, x3, x4, x5, x6] s).bi ∗ owns (c : Thread nD τ) arg10 fullShare (St.next i x1 ![x2, x3, x4, x5, x6] s).m ∗ owns (c : Thread nD τ) arg11 fullShare (St.next i x1 ![x2, x3, x4, x5, x6] s).z ∗ owns (c : Thread nD τ) arg12 fullShare (St.next i x1 ![x2, x3, x4, x5, x6] s).a ∗ owns (c : Thread nD τ) arg13 fullShare (St.next i x1 ![x2, x3, x4, x5, x6] s).bv ∗ owns (c : Thread nD τ) arg14 fullShare (St.next i x1 ![x2, x3, x4, x5, x6] s).bi) -∗ K ⟨⟩))
      ⊢ wp frame (wpE (defs₀ (F := F)) 𝒱₀ c none) E (cc1__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__body_eq_skeleton]; unfold cc1__body_skel
  simp only [k1_part1_eq_skeleton, k1_part2_eq_skeleton, k1_part3_eq_skeleton, k1_part4_eq_skeleton, k1_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr; rotate_left
    · iexact H7
    ipureintro
    simp only [readCov_eq, load_col, store_col, load_blk, store_blk, load_tab, store_tab, load_stack, store_stack, Memref.IsWhole.read_unread]; try rfl
  isplitl [H8]
  · iexists _; isplitr; rotate_left
    · iexact H8
    ipureintro
    (try delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90); simp only [readCov_eq, load_col, store_col, load_blk, store_blk, load_tab, store_tab, load_stack, store_stack, Memref.IsWhole.read_unread]; try rfl
  isplitl [H9]
  · iexists _; isplitr; rotate_left
    · iexact H9
    ipureintro
    delta body_last.sl.v185; simp only [readCov_eq, load_stack, store_stack]
    delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90; refine ext_stack (p := fun k => biNext (k1_pay9 i) (k1_pay11 i x1) (![x2, x3, x4, x5, x6] k) (slab k s.bv) (slab k s.bi)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)
  isplitl [H10]
  · iexists _; isplitr; rotate_left
    · iexact H10
    ipureintro
    (try delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90); simp only [readCov_eq, load_col, store_col, load_blk, store_blk, load_tab, store_tab, load_stack, store_stack, Memref.IsWhole.read_unread]; try rfl
  isplitl [H11]
  · iexists _; isplitr; rotate_left
    · iexact H11
    ipureintro
    (try delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90); simp only [readCov_eq, load_col, store_col, load_blk, store_blk, load_tab, store_tab, load_stack, store_stack, Memref.IsWhole.read_unread]; try rfl
  isplitl [H12]
  · iexists _; isplitr; rotate_left
    · iexact H12
    ipureintro
    (try delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90); simp only [readCov_eq, load_col, store_col, load_blk, store_blk, load_tab, store_tab, load_stack, store_stack, Memref.IsWhole.read_unread]; try rfl
  isplitl [H13]
  · iexists _; isplitr; rotate_left
    · iexact H13
    ipureintro
    delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90; refine ext_stack (p := fun k => bvNext (k1_pay11 i x1) (![x2, x3, x4, x5, x6] k) (slab k s.bv)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)
  · iexists _; isplitr; rotate_left
    · iexact H14
    ipureintro
    delta body_last.sl.H10_1 body_last.sl.H11_1 body_last.sl.H12_1 body_last.sl.H14_5 body_last.sl.r body_last.sl.r_1 body_last.sl.r_10 body_last.sl.r_2 body_last.sl.r_3 body_last.sl.r_4 body_last.sl.r_5 body_last.sl.r_6 body_last.sl.r_7 body_last.sl.r_8 body_last.sl.r_9 body_last.sl.v0 body_last.sl.v1 body_last.sl.v107 body_last.sl.v116 body_last.sl.v133 body_last.sl.v142 body_last.sl.v159 body_last.sl.v168 body_last.sl.v177 body_last.sl.v178 body_last.sl.v181 body_last.sl.v185 body_last.sl.v2 body_last.sl.v81 body_last.sl.v90; refine ext_stack (p := fun k => biNext (k1_pay9 i) (k1_pay11 i x1) (![x2, x3, x4, x5, x6] k) (slab k s.bv) (slab k s.bi)) ?_ ?_ ?_ ?_ ?_ <;>
      (simp (disch := decide) only [readCov_eq, load_col, store_col, load_blk, store_blk, load_tab, store_tab, load_stack, store_stack, Memref.IsWhole.read_unread, View.writes_nil, readAt_row _ _ 0 inb_S5x128x1_S1x128x1_0_0_0 rfl, slab_writes_hit _ _ 0 inb_S5x128x1_S1x128x1_0_0_0 rfl, slab_writes_miss _ _ _ 0 inb_S5x128x1_S1x128x1_0_0_0 rfl, readAt_row _ _ 1 inb_S5x128x1_S1x128x1_1_0_0 rfl, slab_writes_hit _ _ 1 inb_S5x128x1_S1x128x1_1_0_0 rfl, slab_writes_miss _ _ _ 1 inb_S5x128x1_S1x128x1_1_0_0 rfl, readAt_row _ _ 2 inb_S5x128x1_S1x128x1_2_0_0 rfl, slab_writes_hit _ _ 2 inb_S5x128x1_S1x128x1_2_0_0 rfl, slab_writes_miss _ _ _ 2 inb_S5x128x1_S1x128x1_2_0_0 rfl, readAt_row _ _ 3 inb_S5x128x1_S1x128x1_3_0_0 rfl, slab_writes_hit _ _ 3 inb_S5x128x1_S1x128x1_3_0_0 rfl, slab_writes_miss _ _ _ 3 inb_S5x128x1_S1x128x1_3_0_0 rfl, readAt_row _ _ 4 inb_S5x128x1_S1x128x1_4_0_0 rfl, slab_writes_hit _ _ 4 inb_S5x128x1_S1x128x1_4_0_0 rfl, slab_writes_miss _ _ _ 4 inb_S5x128x1_S1x128x1_4_0_0 rfl, best_0, best_1, best_2, best_3, best_4, where_0, where_1, where_2, where_3, where_4]; try rfl)

end Cert.KernelIdeal.Gen

end
-- ==== Proof.Mask.lean ====
module

public import proofs.«01_k».proof.Proof.Point
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The mask of the columns inside the array -/

/-- The number of column `j` of block `i`. -/
theorem col_apply (i : grid1.Coords) (j : S128x2048.Idx) : k1_pay9 i j = BitVec.ofNat 32 ((i 0).val * 2048 + (j 1).val) := by
  have h : k1_pay9 i j = BitVec.ofNat 32 (j 1).val + BitVec.ofNat 32 (i 0).val * 2048#32 := by
    show iota .tc S128x2048 32 [1] _ j + _ = _
    rw [iota_single_apply]; rfl
  rw [h, show (2048#32 : BitVec 32) = BitVec.ofNat 32 2048 from rfl, ← BitVec.ofNat_mul, ← BitVec.ofNat_add]
  exact congrArg (BitVec.ofNat 32) (Nat.add_comm _ _)

/-- The mask holds exactly at the columns inside the array. -/
theorem mask_iff (i : grid1.Coords) (j : S128x2048.Idx) : k1_pay10 i j = 1#1 ↔ (i 0).val * 2048 + (j 1).val < 100000 := by
  have hi : (i 0).val < 49 := (i 0).isLt
  have hj : (j 1).val < 2048 := (j 1).isLt
  show IntOp.cmpi .slt (k1_pay9 i j) 100000#32 = 1#1 ↔ _
  rw [col_apply, show (100000#32 : BitVec 32) = BitVec.ofNat 32 100000 from rfl, Idealize.ShloMosaic.WordCmp.cmpi_slt_ofNat (by norm_num; omega) (by norm_num)]
  exact Idealize.ShloMosaic.WordCmp.ofBool_decide_eq_one_iff _

/-- A point reads of its block only the columns inside the array. -/
theorem next_congr (i : grid1.Coords) (x x' : Vec F S128x2048 .f32) (h : ∀ j, k1_pay10 i j = 1#1 → x j = x' j)
    (T : Fin 5 → Vec F S1x128x2048 .f32) (s : St F) : St.next i x T s = St.next i x' T s := by
  have hs : ∀ y : Vec F S128x2048 .f32, select (k1_pay10 i) x y = select (k1_pay10 i) x' y := fun y => funext fun j => by
    by_cases hj : k1_pay10 i j = 1#1
    · show Scalar.select (k1_pay10 i j) (x j) (y j) = Scalar.select (k1_pay10 i j) (x' j) (y j)
      rw [h j hj]
    · show Scalar.select (k1_pay10 i j) (x j) (y j) = Scalar.select (k1_pay10 i j) (x' j) (y j)
      exact (if_neg hj).trans (if_neg hj).symm
  have h11 : k1_pay11 i x = k1_pay11 i x' := hs _
  have h12 : k1_pay12 i x s.m = k1_pay12 i x' s.m := by unfold k1_pay12; rw [h11]
  have h14 : k1_pay14 i x s.m = k1_pay14 i x' s.m := by unfold k1_pay14; rw [h11, h12]
  have h13 : k1_pay13 i x s.m = k1_pay13 i x' s.m := by unfold k1_pay13; rw [h12]
  have h15 : k1_pay15 i x s.m s.z = k1_pay15 i x' s.m s.z := by unfold k1_pay15; rw [h13, h14]
  have h16 : k1_pay16 i x s.m s.a = k1_pay16 i x' s.m s.a := by unfold k1_pay16; rw [h13]
  have h17 : k1_pay17 i x s.m = k1_pay17 i x' s.m := by unfold k1_pay17; rw [h14]; dsimp only; rw [hs]
  unfold St.next
  rw [h12, h15, h16, h17, h11]

/-! ## The blocks of the logits -/

/-- How much of block `i` the transfers move: every row, and the columns inside the array. -/
theorem xsize_x : ∀ i : grid1.Coords, win1_0.xsize i 0 = 128 ∧ win1_0.xsize i 1 = min 2048 (100000 - (i 0).val * 2048) := by
  decide +kernel

/-- A column inside the array is one the transfers move. -/
theorem moved_of_mask (i : grid1.Coords) (j : S128x2048.Idx) (h : k1_pay10 i j = 1#1) : win1_0.moved i j = true := by
  refine (win1_0.moved_iff i j).mpr fun a => ?_
  have h' := (mask_iff i j).mp h
  have h0 : (j 0).val < 128 := (j 0).isLt
  have h1 : (j 1).val < 2048 := (j 1).isLt
  match a with
  | ⟨0, _⟩ => exact lt_of_lt_of_eq h0 (xsize_x i).1.symm
  | ⟨1, _⟩ => exact lt_of_lt_of_eq (lt_min h1 (show (j 1).val < _ by omega)) (xsize_x i).2.symm

/-- Filling the columns outside the array one way or another makes no difference to a point. -/
theorem next_fill (i : grid1.Coords) (d d' : S128x2048.Idx → Elt F .f32) (g : (win1_0.xblock i).Idx → Elt F .f32)
    (T : Fin 5 → Vec F S1x128x2048 .f32) (s : St F) : St.next i (win1_0.fill i d g) T s = St.next i (win1_0.fill i d' g) T s := by
  refine next_congr i _ _ (fun j hj => ?_) T s
  have hm := moved_of_mask i j hj
  unfold Window.fill
  rw [dif_pos hm, dif_pos hm]

end Cert.KernelIdeal.Gen

end
-- ==== Proof.Region1.lean ====
module

public import proofs.«01_k».proof.Proof.BodyFirst
public import proofs.«01_k».proof.Proof.BodyMid
public import proofs.«01_k».proof.Proof.BodyLast
public import proofs.«01_k».proof.Proof.Mask

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Which point is the first, which the last -/

theorem first_iff : ∀ t : Fin cfg1.N, cFirst (grid1.coords t) ↔ t.val = 0 :=
  (fun t => by
    have ht : t.val < 49 := Nat.lt_of_lt_of_eq t.isLt N_1
    have e0 : (grid1.coords t 0).val = t.val / 1 % 49 := Pipeline.Grid.coords_val t 0 (by decide) rfl
    simp only [cFirst, e0]
    word_cmp
   : ∀ t : Fin grid1.N, cFirst (grid1.coords t) ↔ t.val = 0)

theorem last_iff : ∀ t : Fin cfg1.N, cLast (grid1.coords t) ↔ t.val = 48 :=
  (fun t => by
    have ht : t.val < 49 := Nat.lt_of_lt_of_eq t.isLt N_1
    have e0 : (grid1.coords t 0).val = t.val / 1 % 49 := Pipeline.Grid.coords_val t 0 (by decide) rfl
    simp only [cLast, k1_cond2, e0]
    word_cmp
   : ∀ t : Fin grid1.N, cLast (grid1.coords t) ↔ t.val = 48)

theorem idle_7 : ∀ t : Fin cfg1.N, t.val ≠ 48 → idle1 7 (grid1.coords t) = true := by decide +kernel
theorem idle_8 : ∀ t : Fin cfg1.N, t.val ≠ 48 → idle1 8 (grid1.coords t) = true := by decide +kernel
theorem live_7 : ∀ t : Fin cfg1.N, t.val = 48 → idle1 7 (grid1.coords t) = false := by decide +kernel
theorem live_8 : ∀ t : Fin cfg1.N, t.val = 48 → idle1 8 (grid1.coords t) = false := by decide +kernel
theorem keep_7 (t : Fin cfg1.N) (h : t.val ≠ 48) : (win1 7).flush t = false := by
  have := lt_of_lt_of_eq t.isLt (show cfg1.N = 49 from N_1)
  exact Bool.eq_false_iff.mpr fun e => h (by have := (flush1_7 t).mp e; omega)
theorem keep_8 (t : Fin cfg1.N) (h : t.val ≠ 48) : (win1 8).flush t = false := by
  have := lt_of_lt_of_eq t.isLt (show cfg1.N = 49 from N_1)
  exact Bool.eq_false_iff.mpr fun e => h (by have := (flush1_8 t).mp e; omega)

/-! ## The region's data -/

variable (V : Dev nD → Valuation τ sig (Elt F))

/-- The part of block `t` of the logits that lies inside the array. -/
def xpart (c : Dev nD) (t : Fin cfg1.N) : (win1_0.xblock (grid1.coords t)).Idx → Elt F .f32 :=
  (win1_0.blk t).view.read (Elt F) (V c (Proc.devRef .tc (Pipeline.arrRef spec1 0)))

/-- That block with zeros past the array's end. -/
def xblock (c : Dev nD) (t : Fin cfg1.N) : Vec F S128x2048 .f32 :=
  win1_0.fill (grid1.coords t) (fun _ => Scalar.ofBits .f32 0#32) (xpart V c t)

/-- Block `t` of each of the five tables of noise. -/
def tab1 (c : Dev nD) (t : Fin cfg1.N) : Vec F S1x128x2048 .f32 := (win1_1.blk t).view.read (Elt F) (V c (Proc.devRef .tc (Pipeline.arrRef spec1 1)))
def tab2 (c : Dev nD) (t : Fin cfg1.N) : Vec F S1x128x2048 .f32 := (win1_2.blk t).view.read (Elt F) (V c (Proc.devRef .tc (Pipeline.arrRef spec1 2)))
def tab3 (c : Dev nD) (t : Fin cfg1.N) : Vec F S1x128x2048 .f32 := (win1_3.blk t).view.read (Elt F) (V c (Proc.devRef .tc (Pipeline.arrRef spec1 3)))
def tab4 (c : Dev nD) (t : Fin cfg1.N) : Vec F S1x128x2048 .f32 := (win1_4.blk t).view.read (Elt F) (V c (Proc.devRef .tc (Pipeline.arrRef spec1 4)))
def tab5 (c : Dev nD) (t : Fin cfg1.N) : Vec F S1x128x2048 .f32 := (win1_5.blk t).view.read (Elt F) (V c (Proc.devRef .tc (Pipeline.arrRef spec1 5)))

/-- The scratch after the first `n` points. -/
def stAt (c : Dev nD) : ℕ → St F
  | 0 => St.init
  | n + 1 => if h : n < cfg1.N then
      St.next (grid1.coords ⟨n, h⟩) (xblock V c ⟨n, h⟩) ![tab1 V c ⟨n, h⟩, tab2 V c ⟨n, h⟩, tab3 V c ⟨n, h⟩, tab4 V c ⟨n, h⟩, tab5 V c ⟨n, h⟩] (stAt c n)
    else stAt c n

theorem stAt_succ (c : Dev nD) (t : Fin cfg1.N) : stAt V c (t.val + 1)
    = St.next (grid1.coords t) (xblock V c t) ![tab1 V c t, tab2 V c t, tab3 V c t, tab4 V c t, tab5 V c t] (stAt V c t.val) := by
  rw [stAt, dif_pos t.isLt]

/-- A point's step from the block as fetched, whatever the buffer holds past the array's end. -/
theorem stAt_fetched (c : Dev nD) (t : Fin cfg1.N) (d : S128x2048.Idx → Elt F .f32) :
    St.next (grid1.coords t) (win1_0.fill (grid1.coords t) d (xpart V c t)) ![tab1 V c t, tab2 V c t, tab3 V c t, tab4 V c t, tab5 V c t] (stAt V c t.val)
      = stAt V c (t.val + 1) :=
  (next_fill _ _ _ _ _ _).trans (stAt_succ V c t).symm

/-- A scoped buffer held whole at something. -/
abbrev some1 (c : Dev nD) (r : Ref sig .tc) : sProp 𝕄 :=
  iprop(∃ f : Buf (Elt F) ((c : Thread nD τ).loc r), ((c : Thread nD τ).loc r) ↦{fullShare} f)

abbrev sc0 : Memref sig .tc .vmem S128x1 .f32 := Memref.whole cc1_scratch0
abbrev sc1 : Memref sig .tc .vmem S128x1 .f32 := Memref.whole cc1_scratch1
abbrev sc2 : Memref sig .tc .vmem S128x1 .f32 := Memref.whole cc1_scratch2
abbrev sc3 : Memref sig .tc .vmem S5x128x1 .f32 := Memref.whole cc1_scratch3
abbrev sc4 : Memref sig .tc .vmem S5x128x1 .i32 := Memref.whole cc1_scratch4

/-- The other call's staging buffers, which this region leaves alone. -/
def others (c : Dev nD) : sProp 𝕄 :=
  iprop(some1 (F := F) c cc0_stg0_0 ∗ some1 (F := F) c cc0_stg0_1 ∗ some1 (F := F) c cc0_stg1_0 ∗ some1 (F := F) c cc0_stg1_1
    ∗ some1 (F := F) c cc0_stg2_0 ∗ some1 (F := F) c cc0_stg2_1 ∗ some1 (F := F) c cc0_stg3_0 ∗ some1 (F := F) c cc0_stg3_1
    ∗ some1 (F := F) c cc0_stg4_0 ∗ some1 (F := F) c cc0_stg4_1)

/-- The scratch holding the state `s`. -/
def holds (c : Dev nD) (s : St F) : sProp 𝕄 :=
  iprop(owns (c : Thread nD τ) sc0 fullShare s.m ∗ owns (c : Thread nD τ) sc1 fullShare s.z ∗ owns (c : Thread nD τ) sc2 fullShare s.a
    ∗ owns (c : Thread nD τ) sc3 fullShare s.bv ∗ owns (c : Thread nD τ) sc4 fullShare s.bi)

/-- The scratch holding something. -/
def holdsAny (c : Dev nD) : sProp 𝕄 :=
  iprop((∃ d, owns (c : Thread nD τ) sc0 fullShare d) ∗ (∃ d, owns (c : Thread nD τ) sc1 fullShare d) ∗ (∃ d, owns (c : Thread nD τ) sc2 fullShare d)
    ∗ (∃ d, owns (c : Thread nD τ) sc3 fullShare d) ∗ (∃ d, owns (c : Thread nD τ) sc4 fullShare d))

theorem rest_split (c : Dev nD) : (Pipeline.scopedRest spec1 c : sProp 𝕄) ⊢ iprop(others c ∗ holdsAny c) := by
  rw [scopedRest1_eq]; unfold others holdsAny
  simp only [owns_whole]
  iintro ⟨H0, H1, H2, H3, H4, H5, H6, H7, H8, H9, HA, HB, HC, HD, HE⟩
  isplitr [HA HB HC HD HE]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HA]; · iexact HA
  isplitl [HB]; · iexact HB
  isplitl [HC]; · iexact HC
  isplitl [HD]; · iexact HD
  iexact HE

theorem rest_join (c : Dev nD) : (iprop(others c ∗ holdsAny c) : sProp 𝕄) ⊢ Pipeline.scopedRest spec1 c := by
  rw [scopedRest1_eq]; unfold others holdsAny
  simp only [owns_whole]
  iintro ⟨⟨H0, H1, H2, H3, H4, H5, H6, H7, H8, H9⟩, HA, HB, HC, HD, HE⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  iexact HE

theorem holds_any (c : Dev nD) (s : St F) : (holds c s : sProp 𝕄) ⊢ holdsAny c := by
  unfold holds holdsAny
  iintro ⟨HA, HB, HC, HD, HE⟩
  isplitl [HA]; · iexists _; iexact HA
  isplitl [HB]; · iexists _; iexact HB
  isplitl [HC]; · iexists _; iexact HC
  isplitl [HD]; · iexists _; iexact HD
  iexists _; iexact HE

/-- What is carried between points: before the first the scratch holds anything, then the state so far. -/
def carried (c : Dev nD) : ℕ → sProp 𝕄
  | 0 => iprop(others c ∗ holdsAny c)
  | n + 1 => iprop(others c ∗ holds c (stAt V c (n + 1)))

theorem carried_any (c : Dev nD) (n : ℕ) : (carried V c n : sProp 𝕄) ⊢ iprop(others c ∗ holdsAny c) := by
  cases n with
  | zero => exact .rfl
  | succ n => exact sep_mono .rfl (holds_any c _)

theorem carried_pos (c : Dev nD) (n : ℕ) (h : n ≠ 0) : (carried V c n : sProp 𝕄) = iprop(others c ∗ holds c (stAt V c n)) := by
  cases n with
  | zero => exact absurd rfl h
  | succ n => rfl

/-- The second call's region entered with the arrays at `V`. -/
def dat1 (c : Dev nD) : Dat τ (Elt F) Unit ℕ (UR sig nD τ) ℕ cfg1 c where
  A w := V c (Proc.devRef .tc (Pipeline.arrRef spec1 w))
  after w t := match w with
    | ⟨0, _⟩ => xblock V c t
    | ⟨1, _⟩ => tab1 V c t
    | ⟨2, _⟩ => tab2 V c t
    | ⟨3, _⟩ => tab3 V c t
    | ⟨4, _⟩ => tab4 V c t
    | ⟨5, _⟩ => tab5 V c t
    | ⟨6, _⟩ => xblock V c t
    | ⟨7, _⟩ => (stAt V c (t.val + 1)).ent
    | ⟨8, _⟩ => (stAt V c (t.val + 1)).bi
  Φ t := carried V c t.val
  q _ := fullShare
  owed _ := 0

/-! ## What a point finds in the buffers of the inputs -/

theorem before_x (c : Dev nD) (t : Fin cfg1.N) (d) : (dat1 V c).before 0 t d = win1_0.fill (grid1.coords t) d (xpart V c t) := by
  unfold Dat.before; rw [if_pos (fetch1_0 t)]; rfl
theorem before_1 (c : Dev nD) (t : Fin cfg1.N) (d) : (dat1 V c).before 1 t d = tab1 V c t := by
  unfold Dat.before; rw [if_pos (fetch1_1 t)]; rfl
theorem before_2 (c : Dev nD) (t : Fin cfg1.N) (d) : (dat1 V c).before 2 t d = tab2 V c t := by
  unfold Dat.before; rw [if_pos (fetch1_2 t)]; rfl
theorem before_3 (c : Dev nD) (t : Fin cfg1.N) (d) : (dat1 V c).before 3 t d = tab3 V c t := by
  unfold Dat.before; rw [if_pos (fetch1_3 t)]; rfl
theorem before_4 (c : Dev nD) (t : Fin cfg1.N) (d) : (dat1 V c).before 4 t d = tab4 V c t := by
  unfold Dat.before; rw [if_pos (fetch1_4 t)]; rfl
theorem before_5 (c : Dev nD) (t : Fin cfg1.N) (d) : (dat1 V c).before 5 t d = tab5 V c t := by
  unfold Dat.before; rw [if_pos (fetch1_5 t)]; rfl

theorem row1 (t : Fin cfg1.N) : defs₀ (F := F) .tc cfg1.body (cfg1.bodyArgs t (cfg1.slots t)) = bodyAt1 t := by
  unfold defs₀; rw [Defs.onTc_tc]

theorem cut_x (c : Dev nD) (t : Fin cfg1.N) : win1_0.cut (grid1.coords t) (xblock V c t) = xpart V c t := win1_0.cut_fill _ _ _

set_option maxHeartbeats 1600000 in
/-- The body of the second call does at every point what the region's data say. -/
theorem obligation1 (c : Dev nD) : BodyObligationLoose (dat1 V c) (defs₀ (F := F)) Variants.none () Set.univ := fun t => by
  rw [bigSep_W1, bigSep_W1, row1]
  rw [show (dat1 V c).Φ t.succ = iprop(others c ∗ holds c (stAt V c (t.val + 1))) from rfl,
    show (dat1 V c).Φ t.castSucc = carried V c t.val from rfl,
    show (dat1 V c).owesAt () t.succ = (dat1 V c).owesAt () t.castSucc from rfl]
  simp only [before_x, before_1, before_2, before_3, before_4, before_5]
  have hx : ∀ d, (win1_0.fill (grid1.coords t) d (win1_0.cut (grid1.coords t) (xblock V c t))) = win1_0.fill (grid1.coords t) d (xpart V c t) := fun d => by rw [cut_x]
  by_cases h1 : t.val = 48
  · have h0 : t.val ≠ 0 := by omega
    simp only [live_7 t h1, live_8 t h1]
    rw [carried_pos V c _ h0]
    unfold holds
    iintro ⟨⟨Hoth, HA, HB, HC, HD, HE⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_last Variants.none c (grid1.coords t) _ _ _ _ _ _ _ _ _ _ _ _ _ _ _ _ _ _ sc0 (Memref.isWhole_whole _) sc1 (Memref.isWhole_whole _) sc2 (Memref.isWhole_whole _) sc3 (Memref.isWhole_whole _) sc4 (Memref.isWhole_whole _)
      (fun h => h0 ((first_iff t).mp h)) ((last_iff t).mpr h1) _ _ _ _ _ _ _ _ _ (stAt V c t.val) Set.univ _)
    rw [stAt_fetched V c t d0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    isplitl [HB]; · iexact HB
    isplitl [HC]; · iexact HC
    isplitl [HD]; · iexact HD
    isplitl [HE]; · iexact HE
    iintro ⟨H0, H1, H2, H3, H4, H5, H6, H7, H8, HA, HB, HC, HD, HE⟩
    isplitl [Hoth HA HB HC HD HE]
    · isplitl [Hoth]; · iexact Hoth
      isplitl [HA]; · iexact HA
      isplitl [HB]; · iexact HB
      isplitl [HC]; · iexact HC
      isplitl [HD]; · iexact HD
      iexact HE
    isplitl [Ho]; · iexact Ho
    isplitl [H0]
    · iexists d0
      change _ ⊢ owns (c : Thread nD τ) (st1_0 t) fullShare (win1_0.fill (grid1.coords t) d0 (win1_0.cut (grid1.coords t) (xblock V c t)))
      rw [hx]; try iexact H0
    isplitl [H1]; · iexact H1
    isplitl [H2]; · iexact H2
    isplitl [H3]; · iexact H3
    isplitl [H4]; · iexact H4
    isplitl [H5]; · iexact H5
    isplitl [H6]
    · iexists d0
      change _ ⊢ owns (c : Thread nD τ) (st1_6 t) fullShare (win1_0.fill (grid1.coords t) d0 (win1_0.cut (grid1.coords t) (xblock V c t)))
      rw [hx]; try iexact H6
    isplitl [H7]; · iexact H7
    iexact H8
  · simp only [idle_7 t h1, idle_8 t h1, keep_7 t h1, keep_8 t h1]
    by_cases h0 : t.val = 0
    · have hfirst : ∀ d, St.next (grid1.coords t) (win1_0.fill (grid1.coords t) d (xpart V c t)) ![tab1 V c t, tab2 V c t, tab3 V c t, tab4 V c t, tab5 V c t] St.init
          = stAt V c (t.val + 1) := fun d => by
        have := stAt_fetched V c t d
        rwa [show stAt V c t.val = St.init from by rw [h0]; rfl] at this
      rw [show carried V c t.val = iprop(others c ∗ holdsAny c) from by rw [h0]; rfl]
      unfold holds holdsAny
      iintro ⟨⟨Hoth, ⟨%eA, HA⟩, ⟨%eB, HB⟩, ⟨%eC, HC⟩, ⟨%eD, HD⟩, ⟨%eE, HE⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first (F := F) Variants.none c (grid1.coords t) _ _ _ _ _ _ _ _ _ _ _ _ _ _ _ _ _ _ sc0 (Memref.isWhole_whole _) sc1 (Memref.isWhole_whole _) sc2 (Memref.isWhole_whole _) sc3 (Memref.isWhole_whole _) sc4 (Memref.isWhole_whole _)
        ((first_iff t).mpr h0) (fun h => h1 ((last_iff t).mp h)) _ _ _ _ _ _ _ _ _ _ _ _ _ _ Set.univ _)
      rw [hfirst d0]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      isplitl [HB]; · iexact HB
      isplitl [HC]; · iexact HC
      isplitl [HD]; · iexact HD
      isplitl [HE]; · iexact HE
      iintro ⟨H0, H1, H2, H3, H4, H5, H6, H7, H8, HA, HB, HC, HD, HE⟩
      isplitl [Hoth HA HB HC HD HE]
      · isplitl [Hoth]; · iexact Hoth
        isplitl [HA]; · iexact HA
        isplitl [HB]; · iexact HB
        isplitl [HC]; · iexact HC
        isplitl [HD]; · iexact HD
        iexact HE
      isplitl [Ho]; · iexact Ho
      isplitl [H0]
      · iexists d0
        change _ ⊢ owns (c : Thread nD τ) (st1_0 t) fullShare (win1_0.fill (grid1.coords t) d0 (win1_0.cut (grid1.coords t) (xblock V c t)))
        rw [hx]; try iexact H0
      isplitl [H1]; · iexact H1
      isplitl [H2]; · iexact H2
      isplitl [H3]; · iexact H3
      isplitl [H4]; · iexact H4
      isplitl [H5]; · iexact H5
      isplitl [H6]
      · iexists d0
        change _ ⊢ owns (c : Thread nD τ) (st1_6 t) fullShare (win1_0.fill (grid1.coords t) d0 (win1_0.cut (grid1.coords t) (xblock V c t)))
        rw [hx]; try iexact H6
      isplitl [H7]; · iexists d7; iexact H7
      iexists d8; iexact H8
    · rw [carried_pos V c _ h0]
      unfold holds
      iintro ⟨⟨Hoth, HA, HB, HC, HD, HE⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_mid Variants.none c (grid1.coords t) _ _ _ _ _ _ _ _ _ _ _ _ _ _ _ _ _ _ sc0 (Memref.isWhole_whole _) sc1 (Memref.isWhole_whole _) sc2 (Memref.isWhole_whole _) sc3 (Memref.isWhole_whole _) sc4 (Memref.isWhole_whole _)
        (fun h => h0 ((first_iff t).mp h)) (fun h => h1 ((last_iff t).mp h)) _ _ _ _ _ _ _ _ _ (stAt V c t.val) Set.univ _)
      rw [stAt_fetched V c t d0]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      isplitl [HB]; · iexact HB
      isplitl [HC]; · iexact HC
      isplitl [HD]; · iexact HD
      isplitl [HE]; · iexact HE
      iintro ⟨H0, H1, H2, H3, H4, H5, H6, H7, H8, HA, HB, HC, HD, HE⟩
      isplitl [Hoth HA HB HC HD HE]
      · isplitl [Hoth]; · iexact Hoth
        isplitl [HA]; · iexact HA
        isplitl [HB]; · iexact HB
        isplitl [HC]; · iexact HC
        isplitl [HD]; · iexact HD
        iexact HE
      isplitl [Ho]; · iexact Ho
      isplitl [H0]
      · iexists d0
        change _ ⊢ owns (c : Thread nD τ) (st1_0 t) fullShare (win1_0.fill (grid1.coords t) d0 (win1_0.cut (grid1.coords t) (xblock V c t)))
        rw [hx]; try iexact H0
      isplitl [H1]; · iexact H1
      isplitl [H2]; · iexact H2
      isplitl [H3]; · iexact H3
      isplitl [H4]; · iexact H4
      isplitl [H5]; · iexact H5
      isplitl [H6]
      · iexists d0
        change _ ⊢ owns (c : Thread nD τ) (st1_6 t) fullShare (win1_0.fill (grid1.coords t) d0 (win1_0.cut (grid1.coords t) (xblock V c t)))
        rw [hx]; try iexact H6
      isplitl [H7]; · iexists d7; iexact H7
      iexists d8; iexact H8

end Cert.KernelIdeal.Gen

end
-- ==== Proof.Run.lean ====
module

public import proofs.«01_k».proof.Proof.Gen.KernelIdeal.Regions
public import proofs.«01_k».proof.Proof.Region0
public import proofs.«01_k».proof.Proof.Region1
public import Idealize.ShloMosaic.Lib.Pipeline.RegionArraysS

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the calls -/

/-- At the start, -/
def W0 (c : Dev nD) : Valuation τ sig (Elt F) := fun b => m (c, b)
/-- after the first call, -/
def W1 (c : Dev nD) : Valuation τ sig (Elt F) := Pipeline.afterRegion (dat0 (W0 m) c) (W0 m c)
/-- after the second, -/
def W2 (c : Dev nD) : Valuation τ sig (Elt F) := Pipeline.afterRegion (dat1 (W1 m) c) (W1 m c)
/-- and at the end. -/
def W3 (c : Dev nD) : Valuation τ sig (Elt F) := StableHlo.after hostOps2 (W2 m c)

/-- The two regions' data. -/
def pdats : (p : Fin 2) → (c : Dev nD) → Dat τ (Elt F) Unit ℕ (UR sig nD τ) ℕ (cfgs p) c
  | ⟨0, _⟩ => dat0 (W0 m)
  | ⟨1, _⟩ => dat1 (W1 m)

/-- One level for the staging cells; nothing is owed. -/
def LL : GSem nD τ sig → Finset Unit := fun g => if g.1.2 = .tc then {()} else ∅
def lvl : GSem nD τ sig → Unit → ℕ := fun _ _ => 0

/-- What rides along beside the buffers: the core owes nothing. -/
def rest (c : Dev nD) : sProp 𝕄 :=
  iprop((∃ Wd, owes (c : Thread nD τ) (0 : CellTallies nD τ sig Unit) Wd) ∗ iprop(emp) ∗ iprop(emp))

theorem cut (p : Fin 2) : Pipeline.LevelCut (pcfgs (F := F)) adm () LL lvl p (fun _ : Dev nD => (0 : CellTallies nD τ sig Unit)) (fun _ => 0) where
  hι c w s := by unfold LL; rw [if_pos rfl]; exact Finset.mem_singleton.mpr rfl
  hιb c w s := le_refl _
  hD c g i h := absurd h (Nat.lt_irrefl 0)

theorem whole_shares0 (c : Dev nD) (w : Fin cfg0.W) : (dat0 (W0 m) c).share w = fullShare := (dat0 (W0 m) c).share_full (fun _ => rfl) w
theorem whole_shares1 (c : Dev nD) (w : Fin cfg1.W) : (dat1 (W1 m) c).share w = fullShare := (dat1 (W1 m) c).share_full (fun _ => rfl) w

theorem starts0 (c : Dev nD) : iprop(Pipeline.scopedRest spec0 c ∗ iprop(emp)) ⊢ (Pipeline.scopedRest spec0 c : sProp 𝕄) := by
  iintro ⟨H, -⟩; iexact H

theorem ends0 (c : Dev nD) : (Pipeline.scopedRest spec0 c : sProp 𝕄) ⊢ iprop(Pipeline.scopedRest spec0 c ∗ iprop(emp)) := by
  iintro H
  isplitl [H]; · iexact H
  iempintro

theorem starts1 (c : Dev nD) : iprop(Pipeline.scopedRest spec1 c ∗ iprop(emp)) ⊢ (iprop(others (F := F) c ∗ holdsAny c) : sProp 𝕄) := by
  iintro ⟨H, -⟩; iapply (rest_split (F := F) c); iexact H

theorem ends1 (V : Dev nD → Valuation τ sig (Elt F)) (c : Dev nD) (n : ℕ) : carried V c n ⊢ iprop(Pipeline.scopedRest spec1 c ∗ iprop(emp)) := by
  iintro H
  isplitl [H]
  · iapply (rest_join (F := F) c); iapply (carried_any V c n); iexact H
  iempintro

set_option backward.isDefEq.respectTransparency.types false in
/-- The first call as a region of the run. -/
def seg0 : RegionSeg (pcfgs (F := F)) adm (pdats m) () defs₀ Variants.none LL lvl 0 :=
  RegionSeg.ofHeldIn (pcfgs (F := F)) adm (pdats m) () defs₀ Variants.none LL lvl 0 (fun _ => 0) (Pipeline.ucRefs τ sig)
    (fun _ => iprop(emp)) (fun _ => iprop(emp)) launch0.toP rfl (fun c => (obligation0 (W0 m) c).loose) (fun _ _ => rfl) (fun _ => rfl)
    (whole_shares0 m)
    (fun c => starts0 c) (fun c => ends0 c)
    (fun _ => 0) (cut 0) (fun _ => iprop(emp)) (W0 m) (fun _ _ => rfl)

set_option backward.isDefEq.respectTransparency.types false in
/-- The second call as a region of the run. -/
def seg1 : RegionSeg (pcfgs (F := F)) adm (pdats m) () defs₀ Variants.none LL lvl 1 :=
  RegionSeg.ofHeldIn (pcfgs (F := F)) adm (pdats m) () defs₀ Variants.none LL lvl 1 (fun _ => 0) (Pipeline.ucRefs τ sig)
    (fun _ => iprop(emp)) (fun _ => iprop(emp)) launch1.toP rfl (fun c => obligation1 (W1 m) c) (fun _ _ => rfl) (fun _ => rfl)
    (whole_shares1 m)
    (fun c => starts1 c) (fun c => ends1 (W1 m) c 49)
    (fun _ => 0) (cut 1) (fun _ => iprop(emp)) (W1 m) (fun _ _ => rfl)

/-- The two reshapes after the calls. -/
def segH : HostSeg (Ix := Unit) (Name := ℕ) (U := UR sig nD τ) (Lvl := ℕ) (pcfgs (F := F)) defs₀ Variants.none LL lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) rest

/-- The run's items in order. -/
abbrev items : List (Seg (pcfgs (F := F)) adm (pdats m) () defs₀ Variants.none LL lvl) :=
  [.region (seg0 m), .region (seg1 m), .host (segH m)]

theorem sub0 : Pipeline.arrRefs (τ := τ) (pcfgs (F := F) 0).spec ⊆ Pipeline.ucRefs τ sig :=
  Pipeline.arrRefs_sub_ucRefs _ (show ∀ w : Fin 5, (Pipeline.arrRef spec0 w).isScoped = false by decide)
theorem sub1 : Pipeline.arrRefs (τ := τ) (pcfgs (F := F) 1).spec ⊆ Pipeline.ucRefs τ sig :=
  Pipeline.arrRefs_sub_ucRefs _ (show ∀ w : Fin 9, (Pipeline.arrRef spec1 w).isScoped = false by decide)

set_option backward.isDefEq.respectTransparency.types false in
theorem enter0 (c : Dev nD) : iprop(StableHlo.held (c : Thread nD τ) (Pipeline.ucRefs τ sig) (W0 m c) ∗ rest c) ⊢ (seg0 m).pre c :=
  RegionSeg.ofHeldIn_pre
    (D := fun _ => 0) (X := fun _ => iprop(emp)) (Y := fun _ => iprop(emp)) (R := fun _ => iprop(emp)) (W := W0 m) sub0 c
theorem leave0 (c : Dev nD) : (seg0 m).post c ⊢ iprop(StableHlo.held (c : Thread nD τ) (Pipeline.ucRefs τ sig) (W1 m c) ∗ rest c) :=
  RegionSeg.ofHeldIn_post sub0 c
set_option backward.isDefEq.respectTransparency.types false in
theorem enter1 (c : Dev nD) : iprop(StableHlo.held (c : Thread nD τ) (Pipeline.ucRefs τ sig) (W1 m c) ∗ rest c) ⊢ (seg1 m).pre c :=
  RegionSeg.ofHeldIn_pre
    (D := fun _ => 0) (X := fun _ => iprop(emp)) (Y := fun _ => iprop(emp)) (R := fun _ => iprop(emp)) (W := W1 m) sub1 c
theorem leave1 (c : Dev nD) : (seg1 m).post c ⊢ iprop(StableHlo.held (c : Thread nD τ) (Pipeline.ucRefs τ sig) (W2 m c) ∗ rest c) :=
  RegionSeg.ofHeldIn_post sub1 c
theorem leaveH (c : Dev nD) : (segH m).post c ⊢ iprop(StableHlo.held (c : Thread nD τ) (Pipeline.ucRefs τ sig) (W3 m c)
    ∗ ∃ Wd, owes (c : Thread nD τ) (0 : CellTallies nD τ sig Unit) Wd) :=
  sep_mono .rfl (by unfold rest; iintro ⟨H, -⟩; iexact H)

/-- Nothing for each core is nothing. -/
theorem no_tickets : (bigSep Finset.univ fun _ : Dev nD => iprop(emp)) = (iprop(emp) : sProp 𝕄) := bigSep_emp_const _

/-- What the launch gives a core. -/
theorem launch_gives (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ iprop(emp))
    ⊢ (iprop(StableHlo.held (c : Thread nD τ) (Pipeline.ucRefs τ sig) (W0 m c) ∗ rest c) : sProp 𝕄) := by
  have h := (Pipeline.unscopedBufs_held (Ix := Unit) (Name := ℕ) (U := UR sig nD τ) (Lvl := ℕ) c (W0 m c))
  unfold rest
  iintro ⟨Hb, -, Ho, -, -, -⟩
  isplitl [Hb]
  · rw [← h]; iexact Hb
  isplitl [Ho]; · iexists ∅; iexact Ho
  isplitr <;> iempintro

set_option backward.isDefEq.respectTransparency.types false in
/-- Every run ends, with every unscoped buffer at its final contents and every counter at zero. -/
theorem run_main : θ_run defs (onTc (τ := τ) (main (F := F))) ⟨m, fun _ => 0, ρ⟩ (fun r => (∀ (c : Dev nD) (b : Ref sig .tc),
      Proc.devRef .tc b ∈ Pipeline.ucRefs τ sig → r.2.mem ((c.tc : Thread nD τ).loc b) = W3 m c (Proc.devRef .tc b))
      ∧ r.2.sem = fun _ => 0) := by
  refine Pipeline.θ_run_regions_kit_dev_sems (pcfgs (F := F)) adm (pdats m) () cellOf_inj emb₁ defs₀ Variants.none LL lvl m ρ main
    (fun _ => items m)
    (fun c Q => by
      rewrite [main_chain c, Seg.run_eq_chain,
        show (items m).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => if_neg h) (fun _ => iprop(emp))
    (initOf (Pipeline.cells cfgs cellOf_inj) (Pipeline.launchToks cfgs cellOf_inj)) ?hu
    (T₀ := fun c => iprop(StableHlo.held (c : Thread nD τ) (Pipeline.ucRefs τ sig) (W0 m c) ∗ rest c))
    (Tₙ := fun c => StableHlo.held (c : Thread nD τ) (Pipeline.ucRefs τ sig) (W3 m c))
    (hch := fun c => ⟨enter0 m c, (leave0 m c).trans (enter1 m c), leave1 m c, leaveH m c⟩)
    (hinit := ?hi)
    (QY := fun c s => ∀ b : Ref sig .tc, Proc.devRef .tc b ∈ Pipeline.ucRefs τ sig → s.mem ((c.tc : Thread nD τ).loc b) = W3 m c (Proc.devRef .tc b))
    (hfin := fun c s' => ?hf) (hQ := fun _ h hz => ⟨h, funext fun g => hz g (.inr (regions_no_unscoped g.2))⟩)
  case hu =>
    iintro H
    imodintro
    isplitl [H]
    · iapply (show (ownU _ : sProp 𝕄) ⊢ BI.own (emb₁ (initOf (Pipeline.cells cfgs cellOf_inj) (Pipeline.launchToks cfgs cellOf_inj))) from .rfl); iexact H
    · rw [no_tickets]; iempintro
  case hi =>
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (W0 m c) ∗ rest c) : sProp 𝕄) :=
      bigSep_mono fun c _ => launch_gives m ρ c
    iintro ⟨H, -⟩
    imodintro
    iapply hall; iexact H
  case hf =>
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact fun b hb => h (Proc.devRef .tc b) hb
    · iexact HSI

/-- The argument ends as it was. -/
theorem W3_arg (c : Dev nD) : W3 m c (Proc.devRef .tc main_arg0) = m ((c : Thread nD τ).loc main_arg0) := by
  have h3 : W3 m c (Proc.devRef .tc main_arg0) = W2 m c (Proc.devRef .tc main_arg0) := StableHlo.after_of_writes_sub hostOps2 _ hostOps2_writes (by decide)
  have h2 : W2 m c (Proc.devRef .tc main_arg0) = W1 m c (Proc.devRef .tc main_arg0) :=
    Pipeline.afterRegion_keeps (dat1 (W1 m) c) (W1 m c) winFacts1.arr_inj (fun _ => rfl) main_arg0 (by decide)
  have h1 : W1 m c (Proc.devRef .tc main_arg0) = W0 m c (Proc.devRef .tc main_arg0) :=
    Pipeline.afterRegion_keeps (dat0 (W0 m) c) (W0 m c) winFacts0.arr_inj (fun _ => rfl) main_arg0 (by decide)
  exact h3.trans (h2.trans h1)

end Cert.KernelIdeal.Gen

end
-- ==== Proof.Same.lean ====
module

public import proofs.«01_k».proof.Defs
public import proofs.«01_k».proof.Proof.Gen.Kernel
public import proofs.«01_k».proof.Proof.Gen.KernelIdeal
public import Idealize.ShloMosaic.Lib.Tactic
public import Idealize.ShloMosaic.Lib.Pipeline.Kit
public import Idealize.ShloMosaic.Adequacy
public import Idealize.ShloMosaic.Init

@[expose] public section

noncomputable section

namespace Cert.Same

open Idealize.ShloMosaic Idealize.SL.Sem Idealize.ShloMosaic.Tactic

theorem sig_eq : Cert.Kernel.sig = Cert.KernelIdeal.sig := rfl

variable {F : FTy → Type} [FloatOps F]

set_option maxRecDepth 100000 in
theorem main_eq [hK : Cert.Kernel.Facts] [hI : Cert.KernelIdeal.Facts] :
    (Cert.Kernel.main (F := F)) = (Cert.KernelIdeal.main (F := F)) := by
  sl_kernel_rfl

theorem defs_eq [hK : Cert.Kernel.Facts] [hI : Cert.KernelIdeal.Facts] :
    (Cert.Kernel.defs (F := F)) = (Cert.KernelIdeal.defs (F := F)) := by
  sl_kernel_rfl

end Cert.Same

end
-- ==== Proof.Reference.lean ====
module

public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.ReferenceIdeal.Gen

open Idealize.ShloMosaic Idealize.ShloMosaic.StableHlo Idealize.SL.Sem Idealize.ShloMosaic.TcCoe

variable {F : FTy → Type} [FloatOps F]

/-- The reference's operations in order, read off its text. -/
def line : {ops : List (HloOp τ sig (Elt F)) // ∀ d, IsSeq (main (F := F) d) ops} := by
  apply Subtype.mk
  hlo_seq

set_option maxRecDepth 20000 in
theorem line_len : (line (F := F)).1.length = 314 := by rfl

set_option maxHeartbeats 4000000 in
set_option maxRecDepth 20000 in
theorem line_bufs : (line (F := F)).1.Forall fun op => op.bufs ⊆ tcRefs τ sig := by
  unfold line; simp

set_option maxHeartbeats 4000000 in
set_option maxRecDepth 20000 in
theorem line_fresh : ∀ op ∈ (line (F := F)).1, op.fresh = ∅ := by
  unfold line
  intro _ h; (repeat (cases h with | head => rfl | tail _ h => ?_)); exact nomatch h

set_option maxRecDepth 20000 in
/-- The reference runs: every buffer ends as the line leaves it. -/
theorem run (m : (ℓ : Loc nD τ sig) → Buf (Elt F) ℓ) (g : Dev nD → PrngReg) :
    θ_run (defs (F := F)) (onTc (τ := τ) (main (F := F))) ⟨m, fun _ => 0, g⟩ (fun r =>
      (∀ (c : Dev nD) (b : Ref sig .tc), r.2.mem ((c.tc : Thread nD τ).loc b) = after line.1 (launchContents m c) (Proc.devRef .tc b))
      ∧ r.2.sem = fun _ => 0) :=
  θ_run_mono (run_hlo defs main line.2 (by decide) (by decide) line_bufs line_fresh m g)
    (fun r h => ⟨h, sem_eq_zero_of_no_sems (by decide) r.2⟩)

set_option maxHeartbeats 4000000 in
set_option maxRecDepth 20000 in
theorem arg_kept (V : Valuation τ sig (Elt F)) : after line.1 V (Proc.devRef .tc main_arg0) = V (Proc.devRef .tc main_arg0) := by
  unfold line
  after_reads_simp

end Cert.ReferenceIdeal.Gen

end
-- ==== Proof.Frames.lean ====
module

public import proofs.«01_k».proof.Defs
public import proofs.«01_k».proof.Proof.Run
public import proofs.«01_k».proof.Proof.Same
public import proofs.«01_k».proof.Proof.Reference

@[expose] public section

noncomputable section

namespace Cert.Frames

open Idealize.ShloMosaic Idealize.ShloMosaic.TcCoe Idealize.SL.Sem

variable {F : FTy → Type} [FloatOps F]

/-- The kernel's frame, over any floats: its argument ends as it was, and every counter at zero. -/
theorem of_run (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0))
      ∧ r.2.sem = fun _ => 0) :=
  θ_run_mono (KernelIdeal.Gen.run_main m g) fun r h =>
    ⟨fun c => (h.1 c KernelIdeal.main_arg0 (by decide)).trans (KernelIdeal.Gen.W3_arg m c), h.2⟩

theorem kernel : Cert.quiescent_Kernel := by
  intro m g _
  have h := of_run (F := Bits) m g
  rw [← Same.main_eq, ← Same.defs_eq] at h
  exact h

theorem ideal : Cert.quiescent_KernelIdeal := fun m g _ => of_run m g

theorem ideal_pre [Pre_distribution.Facts] : Cert.quiescent_KernelIdeal_pre_distribution := fun m g _ => of_run m g

/-- The reference's frame. -/
theorem ref_run (m : (ℓ : Loc ReferenceIdeal.nD ReferenceIdeal.τ ReferenceIdeal.sig) → Buf (Elt F) ℓ) (g : Dev ReferenceIdeal.nD → PrngReg) :
    θ_run (ReferenceIdeal.defs (F := F)) (onTc (τ := ReferenceIdeal.τ) (ReferenceIdeal.main (F := F))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0))
      ∧ r.2.sem = fun _ => 0) :=
  θ_run_mono (ReferenceIdeal.Gen.run m g) fun r h =>
    ⟨fun c => (h.1 c ReferenceIdeal.main_arg0).trans (ReferenceIdeal.Gen.arg_kept _), h.2⟩

theorem reference : Cert.quiescent_ReferenceIdeal := fun m g _ => ref_run m g

theorem reference_pre [Pre_distribution.Facts] : Cert.quiescent_ReferenceIdeal_pre_distribution := fun m g _ => ref_run m g

end Cert.Frames

end
-- ==== Proof.Threefry.lean ====
module

public import proofs.«01_k».proof.Proof.BodyTable

@[expose] public section

noncomputable section

namespace Cert.Threefry

open Idealize.ShloMosaic

/-! ## The counter-based generator, on words -/

/-- The second half of a round: the sum stays, the second word is rotated and mixed into it. `b` is `32 - a`. -/
def turn (a b s y : BitVec 32) : BitVec 32 × BitVec 32 := (s, s ^^^ (y <<< a ||| y >>> b))

/-- One round: the words are added, then `turn`. -/
def mix (a b : BitVec 32) (p : BitVec 32 × BitVec 32) : BitVec 32 × BitVec 32 := turn a b (p.1 + p.2) p.2

/-- The rotations of the odd groups of four rounds, -/
def groupA (p : BitVec 32 × BitVec 32) : BitVec 32 × BitVec 32 :=
  mix 6#32 26#32 (mix 26#32 6#32 (mix 15#32 17#32 (mix 13#32 19#32 p)))
/-- and of the even ones. -/
def groupB (p : BitVec 32 × BitVec 32) : BitVec 32 × BitVec 32 :=
  mix 24#32 8#32 (mix 16#32 16#32 (mix 29#32 3#32 (mix 17#32 15#32 p)))

/-- A key schedule step: two key words and the number of the group. -/
def inject (k l n : BitVec 32) (p : BitVec 32 × BitVec 32) : BitVec 32 × BitVec 32 := (p.1 + k, p.2 + l + n)

/-- The key words are `0`, `42` and `0 ^ 42 ^ 0x1BD11BDA`; their steps after the first four groups. -/
def key1 := inject 42#32 466689008#32 1#32
@[inherit_doc key1] def key2 := inject 466689008#32 0#32 2#32
@[inherit_doc key1] def key3 := inject 0#32 42#32 3#32
@[inherit_doc key1] def key4 := inject 42#32 466689008#32 4#32

/-- The generator under the key `(0, 42)` at the counter `(0, x)`. -/
def pair (x : BitVec 32) : BitVec 32 × BitVec 32 :=
  groupA (key4 (groupB (key3 (groupA (key2 (groupB (key1 (groupA (0#32, x + 42#32)))))))))

/-- The word drawn at counter `x`: the two halves, after the last step of the key, mixed. -/
def word (x : BitVec 32) : BitVec 32 := ((pair x).1 + 466689008#32) ^^^ ((pair x).2 + 0#32 + 5#32)

theorem turn_sum (a b : BitVec 32) (p : BitVec 32 × BitVec 32) : turn a b (p.1 + p.2) p.2 = mix a b p := rfl

theorem mk_turn (a b s y : BitVec 32) : (s, s ^^^ (y <<< a ||| y >>> b)) = turn a b s y := rfl

end Cert.Threefry

namespace Cert.KernelIdeal.Gen
open Idealize.ShloMosaic Cert.Threefry
variable {F : FTy → Type} [FloatOps F]

/-- The Gumbel noise a word stands for, as the call computes it. -/
def gumbel (w : BitVec 32) : F .f32 :=
  let u : F .f32 := FloatOps.subf (FloatOps.ofBits .f32 (w >>> 9#32 ||| 1065353216#32)) (Scalar.ofBits .f32 0x3F800000#32)
  let v : F .f32 := FloatOps.maximumf (Scalar.ofBits .f32 0x00800000#32)
    (FloatOps.addf (FloatOps.mulf u (Scalar.ofBits .f32 0x3F800000#32)) (Scalar.ofBits .f32 0x00800000#32))
  FloatOps.subf (Scalar.ofBits .f32 0x00000000#32)
    (FloatOps.log (FloatOps.subf (Scalar.ofBits .f32 0x00000000#32) (FloatOps.log v)))

/-- The block of noise of the words `w`. -/
def noiseOf (w : IVec S128x2048 32) : Vec F S1x128x2048 .f32 :=
  shapeCast S1x128x2048 (fun j => gumbel (w j)) shapeCasts_S128x2048_S1x128x2048

variable (i : grid0.Coords) (j : S128x2048.Idx)

/-! ### The cuts of draw 0 -/

/-- The state after two groups, two key steps and a round, at draw 0. -/
abbrev at0 := mix 13#32 19#32 (key2 (groupB (key1 (groupA (0#32, k0_pay3 j + k0_pay2 i j + 0#32 + 42#32)))))

theorem cut25 : k0_pay25 (k0_pay12 i) (k0_pay13 i) k0_pay14 j = (at0 i j).2 := rfl
theorem cut26 : k0_pay26 (k0_pay12 i) (k0_pay13 i) k0_pay14 j = (at0 i j).1 + (at0 i j).2 := rfl

/-- From the third group into the fourth. -/
abbrev toB (k : BitVec 32 × BitVec 32 → BitVec 32 × BitVec 32) (p : BitVec 32 × BitVec 32) :=
  mix 29#32 3#32 (mix 17#32 15#32 (k (mix 6#32 26#32 (mix 26#32 6#32 p))))

variable (v w x : IVec S128x2048 32)

theorem cut36 : k0_pay36 v w 15#32 j = (toB key3 (turn 15#32 17#32 (w j) (v j))).1 + (toB key3 (turn 15#32 17#32 (w j) (v j))).2 := rfl
theorem cut37 : k0_pay37 v w 15#32 j = ((toB key3 (turn 15#32 17#32 (w j) (v j))).2 <<< 16#32 ||| (toB key3 (turn 15#32 17#32 (w j) (v j))).2 >>> 16#32) := rfl
theorem cut48 : k0_pay48 v w j = (groupA (key4 (mix 24#32 8#32 (v j, v j ^^^ w j)))).2 := rfl
theorem cut49 : k0_pay49 v w j = (groupA (key4 (mix 24#32 8#32 (v j, v j ^^^ w j)))).1 + 466689008#32 := rfl
theorem cut50 : k0_pay50 j = 0#32 := rfl
theorem cut51 : k0_pay51 (F := F) v w x = noiseOf fun j => w j ^^^ (v j + x j + 5#32) := rfl

theorem noise0_eq : noise0 (F := F) i = noiseOf fun j => word (k0_pay3 j + k0_pay2 i j + 0#32) := by
  refine (cut51 _ _ _).trans (congrArg noiseOf (funext fun j => ?_))
  rw [cut48, cut49, cut50, cut36, cut37, cut25, cut26, mk_turn]
  simp only [turn_sum]
  rfl

/-! ### The cuts of draw 1 -/

abbrev start (b : BitVec 32) := mix 13#32 19#32 (0#32, v j + w j + b + 42#32)

theorem cut54 : k0_pay54 v w j = (start j w v 12800000#32).2 := rfl
theorem cut55 : k0_pay55 v w j = (start j w v 12800000#32).1 + (start j w v 12800000#32).2 := rfl
theorem cut66 : k0_pay66 v w k0_pay56 j = (mix 16#32 16#32 (toB key1 (turn 15#32 17#32 (w j) (v j)))).1 := rfl
theorem cut67 : k0_pay67 v w k0_pay56 j = (mix 16#32 16#32 (toB key1 (turn 15#32 17#32 (w j) (v j)))).2 := rfl
theorem cut77 : k0_pay77 v w j = (groupA (key2 (mix 24#32 8#32 (v j, w j)))).1 + 0#32 := rfl
theorem cut78 : k0_pay78 v w j = (groupA (key2 (mix 24#32 8#32 (v j, w j)))).2 + 42#32 := rfl
/-- From the end of the third group to the first round of the fifth. -/
abbrev toA : BitVec 32 × BitVec 32 := mix 13#32 19#32 (key4 (groupB (v j, w j + 3#32)))
theorem cut89 : k0_pay89 v w j = (toA j v w).2 := rfl
theorem cut90 : k0_pay90 v w j = (toA j v w).1 + (toA j v w).2 := rfl
/-- The last rounds. -/
abbrev fin (p : BitVec 32 × BitVec 32) : BitVec 32 :=
  ((mix 6#32 26#32 (mix 26#32 6#32 p)).1 + 466689008#32) ^^^ ((mix 6#32 26#32 (mix 26#32 6#32 p)).2 + 0#32 + 5#32)
theorem cut94 : k0_pay94 (F := F) (k0_pay92 v w k0_pay91) k0_pay93 = noiseOf fun j => fin (turn 15#32 17#32 (w j) (v j)) := rfl

theorem noise1_eq : noise1 (F := F) i = noiseOf fun j => word (k0_pay3 j + k0_pay2 i j + 12800000#32) := by
  refine (cut94 _ _).trans (congrArg noiseOf (funext fun j => ?_))
  rw [cut89, cut90]
  simp only [turn_sum, toA, cut77, cut78, cut66, cut67, cut54, cut55]
  rfl

/-! ### The cuts of draw 2 -/

abbrev first (b : BitVec 32) := groupA (0#32, v j + w j + b + 42#32)

theorem cut103 : k0_pay103 v w j = (first j w v 25600000#32).1 + 42#32 := rfl
theorem cut104 : k0_pay104 v w j = (first j w v 25600000#32).2 + 466689008#32 := rfl
abbrev to3 (n : BitVec 32) := mix 13#32 19#32 (key2 (groupB (v j, w j + n)))
theorem cut115 : k0_pay115 v w 1#32 j = (to3 j v w 1#32).2 := rfl
theorem cut116 : k0_pay116 v w 1#32 j = (to3 j v w 1#32).1 + (to3 j v w 1#32).2 := rfl
theorem cut117 : k0_pay117 v w 1#32 j = (to3 j v w 1#32).2 <<< 15#32 := rfl
/-- Into the even group from the sum, the second word and its left part. -/
abbrev toB' (k : BitVec 32 × BitVec 32 → BitVec 32 × BitVec 32) (s y z : BitVec 32) :=
  mix 16#32 16#32 (toB k (s, s ^^^ (z ||| y >>> 17#32)))
theorem cut128 : k0_pay128 v w x j = (toB' key3 (w j) (v j) (x j)).2 := rfl
theorem cut129 : k0_pay129 v w x j = (toB' key3 (w j) (v j) (x j)).1 + (toB' key3 (w j) (v j) (x j)).2 := rfl
theorem cut138 : k0_pay138 v w j = (groupA (key4 (turn 24#32 8#32 (w j) (v j)))).1 + 466689008#32 := rfl
theorem cut139 : k0_pay139 v w j = (groupA (key4 (turn 24#32 8#32 (w j) (v j)))).2 + 0#32 := rfl
theorem cut140 : k0_pay140 (F := F) v w 5#32 = noiseOf fun j => v j ^^^ (w j + 5#32) := rfl

theorem noise2_eq : noise2 (F := F) i = noiseOf fun j => word (k0_pay3 j + k0_pay2 i j + 25600000#32) := by
  refine (cut140 _ _).trans (congrArg noiseOf (funext fun j => ?_))
  rw [cut138, cut139]
  simp only [turn_sum, cut128, cut129, cut115, cut116, cut117, mk_turn, cut103, cut104]
  rfl

/-! ### The cuts of draw 3 -/

theorem cut143 : k0_pay143 v w j = (start j w v 38400000#32).2 := rfl
theorem cut144 : k0_pay144 v w j = (start j w v 38400000#32).1 + (start j w v 38400000#32).2 := rfl
theorem cut145 : k0_pay145 v w j = (start j w v 38400000#32).2 <<< 15#32 := rfl
theorem cut156 : k0_pay156 v w x 17#32 j = (toB' key1 (w j) (v j) (x j)).2 := rfl
theorem cut157 : k0_pay157 v w x 17#32 j = (toB' key1 (w j) (v j) (x j)).1 + (toB' key1 (w j) (v j) (x j)).2 := rfl
theorem cut166 : k0_pay166 v w 24#32 j = (groupA (key2 (turn 24#32 8#32 (w j) (v j)))).1 + 0#32 := rfl
theorem cut167 : k0_pay167 v w 24#32 j = (groupA (key2 (turn 24#32 8#32 (w j) (v j)))).2 + 42#32 := rfl
theorem cut179 : k0_pay179 v w k0_pay168 j = (toA j v w).2 := rfl
theorem cut180 : k0_pay180 v w k0_pay168 j = (toA j v w).1 + (toA j v w).2 := rfl
theorem cut181 : k0_pay181 v w k0_pay168 j = (toA j v w).2 <<< 15#32 := rfl
theorem cut183 : k0_pay183 (F := F) (k0_pay182 v w x 17#32) = noiseOf fun j => fin (w j, w j ^^^ (x j ||| v j >>> 17#32)) := rfl

theorem noise3_eq : noise3 (F := F) i = noiseOf fun j => word (k0_pay3 j + k0_pay2 i j + 38400000#32) := by
  refine (cut183 _ _ _).trans (congrArg noiseOf (funext fun j => ?_))
  rw [cut179, cut180, cut181, mk_turn]
  simp only [turn_sum, toA, cut166, cut167, cut156, cut157, cut143, cut144, cut145, mk_turn]
  rfl

/-! ### The cuts of draw 4 -/

theorem cut192 : k0_pay192 v w j = (first j w v 51200000#32).1 + 42#32 := rfl
theorem cut193 : k0_pay193 v w j = (first j w v 51200000#32).2 + 466689008#32 + 1#32 := rfl
abbrev to3' := mix 13#32 19#32 (key2 (groupB (v j, w j)))
theorem cut203 : k0_pay203 v w j = (to3' j v w).2 := rfl
theorem cut204 : k0_pay204 v w j = (to3' j v w).1 + (to3' j v w).2 := rfl
theorem cut205 : k0_pay205 v w j = (to3' j v w).2 <<< 15#32 := rfl
theorem cut217 : k0_pay217 v w x k0_pay206 j = (toB' key3 (w j) (v j) (x j)).2 := rfl
theorem cut218 : k0_pay218 v w x k0_pay206 j = (toB' key3 (w j) (v j) (x j)).1 + (toB' key3 (w j) (v j) (x j)).2 := rfl
theorem cut228 : k0_pay228 v w k0_pay219 j = (groupA (key4 (turn 24#32 8#32 (w j) (v j)))).1 + 466689008#32 := rfl
theorem cut229 : k0_pay229 v w k0_pay219 j = (groupA (key4 (turn 24#32 8#32 (w j) (v j)))).2 + 0#32 + 5#32 := rfl
theorem cut1 : k0_pay1 (F := F) v w = noiseOf fun j => v j ^^^ w j := rfl

theorem noise4_eq : noise4 (F := F) i = noiseOf fun j => word (k0_pay3 j + k0_pay2 i j + 51200000#32) := by
  refine (cut1 _ _).trans (congrArg noiseOf (funext fun j => ?_))
  rw [cut228, cut229]
  simp only [turn_sum, cut217, cut218, cut203, cut204, cut205, mk_turn, cut192, cut193]
  rfl

end Cert.KernelIdeal.Gen

end
-- ==== Proof.Draws.lean ====
module

public import proofs.«01_k».proof.Proof.Reference
public import proofs.«01_k».proof.Proof.Threefry
public import Idealize.ShloMosaic.Lib.StableHlo.ReadAt

@[expose] public section

noncomputable section

namespace Cert.ReferenceIdeal.Gen

open Idealize.ShloMosaic Idealize.ShloMosaic.StableHlo Idealize.SL.Sem Idealize.ShloMosaic.TcCoe Cert.Threefry

variable {F : FTy → Type} [FloatOps F]

/-! ## The reference's draws

The line is cut where the generator's groups of rounds end, so that each cut's words are read over the ones before. -/

/-- The operations from position `a`, `b` of them. -/
def part (a b : ℕ) : List (HloOp τ sig (Elt F)) := (line.1.drop a).take b

/-- The buffer at a reference. -/
local notation "⟪" r "⟫" => Proc.devRef (τ := τ) Proc.tc r

/-- What the generator's groups leave alone: the key words and the two scalars the range is made of. -/
structure Kept (V : Valuation τ sig (Elt F)) (x : FVec F S128x100000 .f32) : Prop where
  arg : V ⟪main_arg0⟫ = x
  k0 : V ⟪main_call1_v5⟫ = fun _ => 0#32
  k1 : V ⟪main_call1_v7⟫ = fun _ => 42#32
  k2 : V ⟪main_call1_call0_v1⟫ = fun _ => 466689008#32
  lo : V ⟪main_call1_v2⟫ = fun _ => Scalar.ofBits .f32 0x00000000#32
  hi : V ⟪main_call1_v3⟫ = fun _ => Scalar.ofBits .f32 0x3F800000#32

set_option maxHeartbeats 4000000
set_option maxRecDepth 20000

variable (V : Valuation τ sig (Elt F)) (x : FVec F S128x100000 .f32)

theorem Kept.group1 {V : Valuation τ sig (Elt F)} {x} (h : Kept V x) : Kept (after (part 66 43) V) x := by
  constructor <;> unfold part line <;> after_reads_simp
  exacts [h.arg, h.k0, h.k1, h.k2, h.lo, h.hi]
theorem Kept.group2 {V : Valuation τ sig (Elt F)} {x} (h : Kept V x) : Kept (after (part 109 43) V) x := by
  constructor <;> unfold part line <;> after_reads_simp
  exacts [h.arg, h.k0, h.k1, h.k2, h.lo, h.hi]
theorem Kept.group3 {V : Valuation τ sig (Elt F)} {x} (h : Kept V x) : Kept (after (part 152 43) V) x := by
  constructor <;> unfold part line <;> after_reads_simp
  exacts [h.arg, h.k0, h.k1, h.k2, h.lo, h.hi]
theorem Kept.group4 {V : Valuation τ sig (Elt F)} {x} (h : Kept V x) : Kept (after (part 195 43) V) x := by
  constructor <;> unfold part line <;> after_reads_simp
  exacts [h.arg, h.k0, h.k1, h.k2, h.lo, h.hi]
theorem Kept.group5 {V : Valuation τ sig (Elt F)} {x} (h : Kept V x) : Kept (after (part 238 43) V) x := by
  constructor <;> unfold part line <;> after_reads_simp
  exacts [h.arg, h.k0, h.k1, h.k2, h.lo, h.hi]

variable {V x} (j : S5x128x100000.Idx)

theorem group1 (h : Kept V x) :
    (after (part 66 43) V ⟪main_call1_call0_v35⟫ j, after (part 66 43) V ⟪main_call1_call0_v39⟫ j)
      = key1 (groupA (V ⟪main_call1_call0_v3⟫ j, V ⟪main_call1_call0_v5⟫ j)) := by
  unfold part line; after_reads_simp; simp only [TRef.ofBuf, TRef.toBuf, cast_eq, h.k0, h.k1, h.k2]; rfl
theorem group2 (h : Kept V x) :
    (after (part 109 43) V ⟪main_call1_call0_v69⟫ j, after (part 109 43) V ⟪main_call1_call0_v73⟫ j)
      = key2 (groupB (V ⟪main_call1_call0_v35⟫ j, V ⟪main_call1_call0_v39⟫ j)) := by
  unfold part line; after_reads_simp; simp only [TRef.ofBuf, TRef.toBuf, cast_eq, h.k0, h.k1, h.k2]; rfl
theorem group3 (h : Kept V x) :
    (after (part 152 43) V ⟪main_call1_call0_v103⟫ j, after (part 152 43) V ⟪main_call1_call0_v107⟫ j)
      = key3 (groupA (V ⟪main_call1_call0_v69⟫ j, V ⟪main_call1_call0_v73⟫ j)) := by
  unfold part line; after_reads_simp; simp only [TRef.ofBuf, TRef.toBuf, cast_eq, h.k0, h.k1, h.k2]; rfl
theorem group4 (h : Kept V x) :
    (after (part 195 43) V ⟪main_call1_call0_v137⟫ j, after (part 195 43) V ⟪main_call1_call0_v141⟫ j)
      = key4 (groupB (V ⟪main_call1_call0_v103⟫ j, V ⟪main_call1_call0_v107⟫ j)) := by
  unfold part line; after_reads_simp; simp only [TRef.ofBuf, TRef.toBuf, cast_eq, h.k0, h.k1, h.k2]; rfl
theorem group5 (h : Kept V x) :
    (after (part 238 43) V ⟪main_call1_v23_0⟫ j, after (part 238 43) V ⟪main_call1_v23_1⟫ j)
      = inject 466689008#32 0#32 5#32 (groupA (V ⟪main_call1_call0_v137⟫ j, V ⟪main_call1_call0_v141⟫ j)) := by
  unfold part line; after_reads_simp; simp only [TRef.ofBuf, TRef.toBuf, cast_eq, h.k0, h.k1, h.k2]; rfl

/-- The count of an element, in 64 bits. -/
def count64 (j : S5x128x100000.Idx) : BitVec 64 :=
  12800000#64 * BitVec.ofNat 64 (j 0).val + 100000#64 * BitVec.ofNat 64 (j 1).val + 1#64 * BitVec.ofNat 64 (j 2).val

/-- The key's words as the line reads them: the two halves joined, one cut out again. -/
def keyWord (n : Fin 1 → ℕ) (hn : S2.Slices n S1) (a b : IVec S1 32) : IVec S_ 32 :=
  shapeCast S_ (extractStridedSlice S1 n (concatenate S2 0 [⟨S1, a⟩, ⟨S1, b⟩] concatenates_S1_S1_S2_d0) hn) shapeCasts_S1_S_

theorem joined_hi (V : Valuation τ sig (Elt F)) : after (part 29 11) V ⟪main_call1_v5⟫
    = keyWord ![0] slices_S2_S1_0 (V ⟪main_v7⟫) (V ⟪main_v10⟫) := by
  unfold part line; after_reads_simp; rfl
theorem joined_lo (V : Valuation τ sig (Elt F)) : after (part 29 11) V ⟪main_call1_v7⟫
    = keyWord ![1] slices_S2_S1_1 (V ⟪main_v7⟫) (V ⟪main_v10⟫) := by
  unfold part line; after_reads_simp; rfl
theorem keyWord_hi (a b : BitVec 32) : keyWord ![0] slices_S2_S1_0 (fun _ => a) (fun _ => b) = fun _ => a := by
  funext i; unfold keyWord; pointwise
theorem keyWord_lo (a b : BitVec 32) : keyWord ![1] slices_S2_S1_1 (fun _ => a) (fun _ => b) = fun _ => b := by
  funext i; unfold keyWord; pointwise

theorem half_hi (V : Valuation τ sig (Elt F)) : after (part 0 29) V ⟪main_v7⟫ = fun _ => 0#32 := by
  unfold part line; after_reads_simp; rfl
theorem half_lo (V : Valuation τ sig (Elt F)) : after (part 0 29) V ⟪main_v10⟫ = fun _ => 42#32 := by
  unfold part line; after_reads_simp; exact funext fun _ => (by decide : 42#32 &&& 4294967295#32 = 42#32)
theorem arg_kept0 (V : Valuation τ sig (Elt F)) : after (part 0 29) V ⟪main_arg0⟫ = V ⟪main_arg0⟫ := by
  unfold part line; after_reads_simp
theorem arg_kept1 (V : Valuation τ sig (Elt F)) : after (part 29 11) V ⟪main_arg0⟫ = V ⟪main_arg0⟫ := by
  unfold part line; after_reads_simp
theorem range_lo (V : Valuation τ sig (Elt F)) : after (part 29 11) V ⟪main_call1_v2⟫ = fun _ => Scalar.ofBits .f32 0x00000000#32 := by
  unfold part line; after_reads_simp; rfl
theorem range_hi (V : Valuation τ sig (Elt F)) : after (part 29 11) V ⟪main_call1_v3⟫ = fun _ => Scalar.ofBits .f32 0x3F800000#32 := by
  unfold part line; after_reads_simp; rfl

/-- What the counting reads. -/
structure Keys (V : Valuation τ sig (Elt F)) (x : FVec F S128x100000 .f32) : Prop where
  arg : V ⟪main_arg0⟫ = x
  k0 : V ⟪main_call1_v5⟫ = fun _ => 0#32
  k1 : V ⟪main_call1_v7⟫ = fun _ => 42#32
  lo : V ⟪main_call1_v2⟫ = fun _ => Scalar.ofBits .f32 0x00000000#32
  hi : V ⟪main_call1_v3⟫ = fun _ => Scalar.ofBits .f32 0x3F800000#32

theorem keys (V : Valuation τ sig (Elt F)) : Keys (after (part 29 11) (after (part 0 29) V)) (V ⟪main_arg0⟫) where
  arg := (arg_kept1 _).trans (arg_kept0 V)
  k0 := by rw [joined_hi, half_hi, half_lo]; exact keyWord_hi _ _
  k1 := by rw [joined_lo, half_hi, half_lo]; exact keyWord_lo _ _
  lo := range_lo _
  hi := range_hi _

theorem Keys.kept {V : Valuation τ sig (Elt F)} {x} (h : Keys V x) : Kept (after (part 40 26) V) x := by
  constructor <;> unfold part line <;> after_reads_simp
  · exact h.arg
  · exact h.k0
  · exact h.k1
  · simp only [TRef.ofBuf, TRef.toBuf, cast_eq, h.k0, h.k1]
    exact funext fun _ => (by decide : (0#32 ^^^ 42#32) ^^^ 466688986#32 = 466689008#32)
  · exact h.lo
  · exact h.hi

theorem count_hi (h : Keys V x) :
    after (part 40 26) V ⟪main_call1_call0_v3⟫ j = (count64 j >>> 32#64).setWidth 32 + 0#32 := by
  unfold part line; after_reads_simp; simp only [TRef.ofBuf, TRef.toBuf, cast_eq, h.k0]; rfl
theorem count_lo (h : Keys V x) :
    after (part 40 26) V ⟪main_call1_call0_v5⟫ j = (count64 j).setWidth 32 + 42#32 := by
  unfold part line; after_reads_simp; simp only [TRef.ofBuf, TRef.toBuf, cast_eq, h.k1]; rfl

/-! ### The draw at an element -/

/-- The count of an element, in one word. -/
def count (j : S5x128x100000.Idx) : BitVec 32 := BitVec.ofNat 32 (12800000 * (j 0).val + 100000 * (j 1).val + (j 2).val)

theorem count64_eq : count64 j = BitVec.ofNat 64 (12800000 * (j 0).val + 100000 * (j 1).val + (j 2).val) := by
  apply BitVec.eq_of_toNat_eq
  simp only [count64, BitVec.toNat_add, BitVec.toNat_mul, BitVec.toNat_ofNat]
  omega

theorem count_lt : 12800000 * (j 0).val + 100000 * (j 1).val + (j 2).val < 2 ^ 32 := by
  have h0 : (j 0).val < 5 := (j 0).isLt
  have h1 : (j 1).val < 128 := (j 1).isLt
  have h2 : (j 2).val < 100000 := (j 2).isLt
  omega

theorem count64_hi : (count64 j >>> 32#64).setWidth 32 + 0#32 = 0#32 := by
  have h := count_lt j
  rw [count64_eq]
  apply BitVec.eq_of_toNat_eq
  simp only [BitVec.toNat_add, BitVec.toNat_setWidth, BitVec.toNat_ofNat, BitVec.ushiftRight_eq', BitVec.toNat_ushiftRight, Nat.shiftRight_eq_div_pow]
  rw [show (32 : ℕ) % 2 ^ 64 = 32 from rfl]
  omega

theorem count64_lo : (count64 j).setWidth 32 = count j := by
  rw [count64_eq, count]
  apply BitVec.eq_of_toNat_eq
  simp only [BitVec.toNat_setWidth, BitVec.toNat_ofNat]
  omega

theorem line_parts : (line (F := F)).1 = part 0 29 ++ (part 29 11 ++ (part 40 26 ++ (part 66 43 ++ (part 109 43 ++ (part 152 43
    ++ (part 195 43 ++ (part 238 43 ++ part 281 33))))))) := by rfl

/-- The Gumbel noise a word stands for, as the reference computes it. -/
def gumbel (w : BitVec 32) : F .f32 :=
  let u : F .f32 := FloatOps.subf (FloatOps.ofBits .f32 (w >>> 9#32 ||| 1065353216#32)) (Scalar.ofBits .f32 0x3F800000#32)
  let v : F .f32 := FloatOps.maximumf (Scalar.ofBits .f32 0x00000000#32)
    (FloatOps.addf (FloatOps.mulf u (FloatOps.subf (Scalar.ofBits .f32 0x3F800000#32) (Scalar.ofBits .f32 0x00000000#32))) (Scalar.ofBits .f32 0x00000000#32))
  FloatOps.hostNegf (FloatOps.hostUnary .log (FloatOps.hostNegf (FloatOps.hostUnary .log
    (FloatOps.addf v (Scalar.ofBits .f32 0x00800000#32)))))

/-- The candidates: noise and logits. -/
def cands (x : FVec F S128x100000 .f32) : FVec F S5x128x100000 .f32 :=
  addf (fun j => gumbel (word (count j))) (broadcastInDim S5x128x100000 ![0, 1, 2] bcast_S1x128x100000_S5x128x100000_0_1_2
    (broadcastInDim S1x128x100000 ![1, 2] bcast_S128x100000_S1x128x100000_1_2 x))

theorem last (h : Kept V x) (hw : (xori (V ⟪main_call1_v23_0⟫) (V ⟪main_call1_v23_1⟫) : IVec S5x128x100000 32) = fun j => word (count j)) :
    after (part 281 33) V ⟪main_v22⟫ = fun i => (Host.argReduce reducer_argmax_f32_i32 (cands x) (iotaInDim S5x128x100000 32 2)
      (constant S_ .f32 0xFF800000#32) (constantI S_ 32 0#32) reducesTo_S5x128x100000_S5x128_d2 h_S_ i).2 := by
  unfold part line; after_reads_simp; simp only [TRef.ofBuf, TRef.toBuf, cast_eq, h.arg, h.lo, h.hi]
  rw [hw]
  rfl

theorem after_parts (l₁ l₂ : List (HloOp τ sig (Elt F))) (V : Valuation τ sig (Elt F)) :
    after (l₁ ++ l₂) V = after l₂ (after l₁ V) := by
  induction l₁ generalizing V with
  | nil => rfl
  | cons op l ih => exact ih _

/-- The reference's sample: the first largest candidate of each row. -/
theorem sample (V : Valuation τ sig (Elt F)) :
    after line.1 V ⟪main_v22⟫ = fun i => (Host.argReduce reducer_argmax_f32_i32 (cands (V ⟪main_arg0⟫)) (iotaInDim S5x128x100000 32 2)
      (constant S_ .f32 0xFF800000#32) (constantI S_ 32 0#32) reducesTo_S5x128x100000_S5x128_d2 h_S_ i).2 := by
  have h0 := keys V
  have hk := h0.kept
  have h1 := hk.group1
  have h2 := h1.group2
  have h3 := h2.group3
  have h4 := h3.group4
  have h5 := h4.group5
  rw [line_parts, after_parts, after_parts, after_parts, after_parts, after_parts, after_parts, after_parts, after_parts]
  refine last h5 (funext fun j => ?_)
  have e := group5 j h4
  rw [group4 j h3, group3 j h2, group2 j h1, group1 j hk, count_hi j h0, count_lo j h0, count64_hi, count64_lo] at e
  have e1 := congrArg Prod.fst e
  have e2 := congrArg Prod.snd e
  exact congrArg₂ (· ^^^ ·) e1 e2

end Cert.ReferenceIdeal.Gen

end
-- ==== Proof.RefEntropy.lean ====
module

public import proofs.«01_k».proof.Proof.Reference

@[expose] public section

noncomputable section

namespace Cert.ReferenceIdeal.Gen

open Idealize.ShloMosaic Idealize.ShloMosaic.StableHlo Idealize.SL.Sem Idealize.ShloMosaic.TcCoe

variable {F : FTy → Type} [FloatOps F]

/-- The buffer at a reference. -/
local notation "⟪" r "⟫" => Proc.devRef (τ := τ) Proc.tc r

/-- The largest logit of a row, -/
def rowMax (x : FVec F S128x100000 .f32) : FVec F S128 .f32 :=
  maximumf (broadcastInDim S128 ![] bcast_S_S128 (constant S_ .f32 0xFF800000#32))
    (Host.reduce FloatOps.maximumf x (constant S_ .f32 0xFF800000#32) reducesTo_S128x100000_S128_d1 h_S_)
/-- the logits less that, -/
def shifted (x : FVec F S128x100000 .f32) : FVec F S128x100000 .f32 :=
  subf x (broadcastInDim S128x100000 ![0, 1] bcast_S128x1_S128x100000_0_1 (broadcastInDim S128x1 ![0] bcast_S128_S128x1_0 (rowMax x)))
/-- and the logarithms of the probabilities. -/
def logProb (x : FVec F S128x100000 .f32) : FVec F S128x100000 .f32 :=
  subf (shifted x) (broadcastInDim S128x100000 ![0, 1] bcast_S128x1_S128x100000_0_1 (Host.log (broadcastInDim S128x1 ![0] bcast_S128_S128x1_0
    (Host.reduceAdd (Host.exp (shifted x)) (constant S_ .f32 0x00000000#32) reducesTo_S128x100000_S128_d1 h_S_))))

set_option maxHeartbeats 4000000
set_option maxRecDepth 20000

theorem shifted_read (V : Valuation τ sig (Elt F)) (x : FVec F S128x100000 .f32) (h : V ⟪main_arg0⟫ = x) :
    after (line.1.take 8) V ⟪main_call0_v5⟫ = shifted x := by
  unfold line; after_reads_simp; simp -implicitDefEqProofs only [TRef.ofBuf, TRef.toBuf, cast_eq, h, shifted, rowMax]
theorem logProb_read (V : Valuation τ sig (Elt F)) (x : FVec F S128x100000 .f32) (h : V ⟪main_call0_v5⟫ = shifted x) :
    after ((line.1.drop 8).take 7) V ⟪main_v0⟫ = logProb x := by
  unfold line; after_reads_simp; simp -implicitDefEqProofs only [TRef.ofBuf, TRef.toBuf, cast_eq, h, logProb]
theorem entropy_read (V : Valuation τ sig (Elt F)) (x : FVec F S128x100000 .f32) (h : V ⟪main_v0⟫ = logProb x) :
    after (line.1.drop 15) V ⟪main_v4⟫ = Host.negf (Host.reduceAdd (mulf (Host.exp (logProb x)) (logProb x)) (constant S_ .f32 0x00000000#32) reducesTo_S128x100000_S128_d1 h_S_) := by
  unfold line; after_reads_simp; simp -implicitDefEqProofs only [TRef.ofBuf, TRef.toBuf, cast_eq, h]

theorem line_cut : (line (F := F)).1 = line.1.take 8 ++ ((line.1.drop 8).take 7 ++ line.1.drop 15) := by rfl

/-- The reference's entropy: minus the sum of the probabilities times their logarithms. -/
theorem entropy (V : Valuation τ sig (Elt F)) :
    after line.1 V ⟪main_v4⟫ = Host.negf (Host.reduceAdd (mulf (Host.exp (logProb (V ⟪main_arg0⟫))) (logProb (V ⟪main_arg0⟫)))
      (constant S_ .f32 0x00000000#32) reducesTo_S128x100000_S128_d1 h_S_) := by
  have happ (l₁ l₂ : List (HloOp τ sig (Elt F))) (V : Valuation τ sig (Elt F)) : after (l₁ ++ l₂) V = after l₂ (after l₁ V) := by
    induction l₁ generalizing V with
    | nil => rfl
    | cons op l ih => exact ih _
  rw [line_cut, happ, happ]
  exact entropy_read _ _ (logProb_read _ _ (shifted_read V _ rfl))

end Cert.ReferenceIdeal.Gen

end
-- ==== Proof.Best.lean ====
module

public import proofs.«01_k».proof.ReferenceIdeal
public import Idealize.ShloMosaic.PureOps.Ideal.Laws
public import Idealize.ShloMosaic.Lib.WordCmp

@[expose] public section

set_option maxRecDepth 16384

noncomputable section

namespace Cert.Best

open Idealize.ShloMosaic

/-- `v` is the largest candidate `c n` over `S`, and `i` the first place where it stands; zero if every candidate is −∞. -/
structure Best (S : ℕ → Prop) (c : ℕ → EReal) (v : EReal) (i : ℕ) : Prop where
  le : ∀ n, S n → c n ≤ v
  found : (v = ⊥ ∧ i = 0) ∨ (⊥ < v ∧ S i ∧ c i = v ∧ ∀ n, S n → c n = v → i ≤ n)

variable {S S' : ℕ → Prop} {c : ℕ → EReal} {v v' : EReal} {i i' : ℕ}

theorem Best.none (h : ∀ n, ¬ S n) : Best S c ⊥ 0 := ⟨fun n hn => absurd hn (h n), .inl ⟨rfl, rfl⟩⟩

theorem Best.below (h : Best S c v i) (h' : Best S c v' i') : v ≤ v' := by
  rcases h.found with ⟨e, -⟩ | ⟨-, hS, e, -⟩
  · exact e ▸ bot_le
  · exact e ▸ h'.le _ hS

/-- There is one such place. -/
theorem Best.unique (h : Best S c v i) (h' : Best S c v' i') : i = i' := by
  have e : v = v' := le_antisymm (h.below h') (h'.below h)
  subst e
  rcases h.found with ⟨e, hi⟩ | ⟨hb, hS, e, hm⟩ <;> rcases h'.found with ⟨e', hi'⟩ | ⟨hb', hS', e', hm'⟩
  · exact hi.trans hi'.symm
  · exact absurd e hb'.ne'
  · exact absurd e' hb.ne'
  · exact le_antisymm (hm _ hS' e') (hm' _ hS e)

/-- Places whose candidate is −∞ make no difference. -/
theorem Best.widen (h : Best S c v i) (hs : ∀ n, S n → S' n) (hb : ∀ n, S' n → ¬ S n → c n = ⊥) : Best S' c v i where
  le n hn := by
    by_cases hS : S n
    · exact h.le n hS
    · rw [hb n hn hS]; exact bot_le
  found := h.found.imp id fun ⟨hv, hS, e, hm⟩ => ⟨hv, hs _ hS, e, fun n hn en => by
    by_cases hS' : S n
    · exact hm n hS' en
    · exact absurd ((hb n hn hS').symm.trans en) hv.ne⟩

/-! ## A block at a time -/

theorem min_word {a b : ℕ} (ha : a < 2 ^ 31) (hb : b < 2 ^ 31) : IntOp.minsi (BitVec.ofNat 32 a) (BitVec.ofNat 32 b) = BitVec.ofNat 32 (min a b) := by
  have h : (BitVec.ofNat 32 a).slt (BitVec.ofNat 32 b) = decide (a < b) := by
    rw [BitVec.slt, BitVec.toInt_ofNat', BitVec.toInt_ofNat', Int.bmod_eq_of_le (by omega) (by omega), Int.bmod_eq_of_le (by omega) (by omega)]
    exact decide_eq_decide.mpr (by omega)
  unfold IntOp.minsi
  rw [h]
  by_cases hab : a < b
  · rw [if_pos (decide_eq_true hab), min_eq_left hab.le]
  · rw [if_neg (by simpa using hab), min_eq_right (not_lt.mp hab)]

theorem fold_min_word {ι : Type} [DecidableEq ι] (B : ℕ) (hB : B < 2 ^ 31) (g : ι → ℕ) (hg : ∀ j, g j < 2 ^ 31) (s : Finset ι) :
    Finset.fold IntOp.minsi (BitVec.ofNat 32 B) (fun j => BitVec.ofNat 32 (g j)) s = BitVec.ofNat 32 (Finset.fold min B g s) ∧ Finset.fold min B g s < 2 ^ 31 := by
  induction s using Finset.induction_on with
  | empty => exact ⟨rfl, hB⟩
  | insert a s ha ih =>
    rw [Finset.fold_insert ha, Finset.fold_insert ha, ih.1]
    exact ⟨min_word (hg a) ih.2, lt_of_le_of_lt (min_le_left _ _) (hg a)⟩

/-- The least column of those that attain the largest candidate of a block. -/
theorem fold_first (f : Fin 2048 → EReal) (M : EReal) (base : ℕ) (hb : base + 2048 ≤ 2147483647) (h : ∃ j, f j = M) :
    ∃ j, f j = M ∧ (∀ j', f j' = M → j ≤ j') ∧
      Finset.fold IntOp.minsi (2147483647#32) (fun j => if f j = M then BitVec.ofNat 32 (base + j.val) else 2147483647#32) Finset.univ = BitVec.ofNat 32 (base + j.val) := by
  classical
  obtain ⟨j, hj, hm⟩ := Finset.exists_min_image (Finset.univ.filter fun j => f j = M) id (h.imp fun j e => Finset.mem_filter.mpr ⟨Finset.mem_univ _, e⟩)
  have hj : f j = M := (Finset.mem_filter.mp hj).2
  have hm : ∀ j', f j' = M → j ≤ j' := fun j' e => hm j' (Finset.mem_filter.mpr ⟨Finset.mem_univ _, e⟩)
  refine ⟨j, hj, hm, ?_⟩
  have hf : (fun j : Fin 2048 => if f j = M then BitVec.ofNat 32 (base + j.val) else 2147483647#32)
      = fun j => BitVec.ofNat 32 (if f j = M then base + j.val else 2147483647) := funext fun j => by split <;> rfl
  rw [hf]
  refine (fold_min_word 2147483647 (by omega) _ (fun j => ?_) _).1.trans (congrArg _ (le_antisymm ?_ ?_))
  · have := j.isLt
    show (if f j = M then base + j.val else 2147483647) < 2 ^ 31
    split <;> omega
  · exact (Finset.fold_min_le _).mpr (.inr ⟨j, Finset.mem_univ _, by rw [if_pos hj]⟩)
  · refine (Finset.le_fold_min _).mpr ⟨by have := j.isLt; omega, fun j' _ => ?_⟩
    split
    · rename_i e; have : j.val ≤ j'.val := hm j' e; omega
    · have := j.isLt; omega

/-- The largest of a block is above its entries, and stands at one of them unless it is −∞. -/
theorem fold_max (f : Fin 2048 → EReal) : (∀ j, f j ≤ Finset.fold max ⊥ f Finset.univ)
    ∧ (⊥ < Finset.fold max ⊥ f Finset.univ → ∃ j, f j = Finset.fold max ⊥ f Finset.univ) := by
  have hle : ∀ j, f j ≤ Finset.fold max ⊥ f Finset.univ := fun j => (Finset.le_fold_max _).mpr (.inr ⟨j, Finset.mem_univ _, le_refl _⟩)
  refine ⟨hle, fun h => ?_⟩
  rcases (Finset.le_fold_max (Finset.fold max ⊥ f Finset.univ)).mp (le_refl _) with h' | ⟨j, _, h'⟩
  · exact absurd (le_bot_iff.mp h') h.ne'
  · exact ⟨j, le_antisymm (hle j) h'⟩

/-- The best over the blocks so far and one block more. -/
theorem Best.block {t : ℕ} (ht : t < 49) (h : Best (· < t * 2048) c v i) (w : BitVec 32) (hw : w = BitVec.ofNat 32 i) (b : BitVec 1) :
    let f : Fin 2048 → EReal := fun j => c (t * 2048 + j.val)
    let M := Finset.fold max ⊥ f Finset.univ
    b = BitVec.ofBool (decide (v < M)) →
    ∃ i', Best (· < (t + 1) * 2048) c (Scalar.select b M v) i' ∧
      Scalar.select b (Finset.fold IntOp.minsi (2147483647#32) (fun j => if f j = M then BitVec.ofNat 32 (t * 2048 + j.val) else 2147483647#32) Finset.univ) w
        = BitVec.ofNat 32 i' := by
  intro f M hb
  obtain ⟨hle, hat⟩ := fold_max f
  have hsplit : ∀ n, n < (t + 1) * 2048 → n < t * 2048 ∨ ∃ j : Fin 2048, n = t * 2048 + j.val := fun n hn => by
    by_cases h' : n < t * 2048
    · exact .inl h'
    · exact .inr ⟨⟨n - t * 2048, by omega⟩, by show n = t * 2048 + (n - t * 2048); omega⟩
  by_cases hv : v < M
  · obtain ⟨j, hj, hm, e⟩ := fold_first f M (t * 2048) (by omega) (hat (lt_of_le_of_lt bot_le hv))
    have hb1 : b = 1 := by rw [hb, decide_eq_true hv]; rfl
    refine ⟨t * 2048 + j.val, ?_, ?_⟩
    · rw [show Scalar.select b M v = M from if_pos hb1]
      refine ⟨fun n hn => ?_, .inr ⟨lt_of_le_of_lt bot_le hv, ?_, hj, fun n hn en => ?_⟩⟩
      · rcases hsplit n hn with h' | ⟨j', rfl⟩
        · exact (h.le n h').trans hv.le
        · exact hle j'
      · have := j.isLt; show t * 2048 + j.val < (t + 1) * 2048; omega
      · rcases hsplit n hn with h' | ⟨j', rfl⟩
        · exact absurd en (lt_of_le_of_lt (h.le n h') hv).ne
        · have : j.val ≤ j'.val := hm j' en
          omega
    · exact (if_pos hb1).trans e
  · have hb1 : ¬ b = 1 := by rw [hb, decide_eq_false hv]; decide
    have hv' := not_lt.mp hv
    refine ⟨i, ?_, (if_neg hb1).trans hw⟩
    rw [show Scalar.select b M v = v from if_neg hb1]
    refine ⟨fun n hn => ?_, h.found.imp id fun ⟨h0, hS, e, hm⟩ => ⟨h0, ?_, e, fun n hn en => ?_⟩⟩
    · rcases hsplit n hn with h' | ⟨j', rfl⟩
      · exact h.le n h'
      · exact (hle j').trans hv'
    · show i < (t + 1) * 2048
      have : i < t * 2048 := hS
      omega
    · rcases hsplit n hn with h' | ⟨j', rfl⟩
      · exact hm n h' en
      · have : i < t * 2048 := hS
        omega

/-! ## One candidate at a time -/

theorem sel_one {α : Type} {b : BitVec 1} (x y : α) (h : b = 1#1) : Scalar.select b x y = x := if_pos h
theorem sel_zero {α : Type} {b : BitVec 1} (x y : α) (h : b = 0#1) : Scalar.select b x y = y := if_neg (by rw [h]; decide)

/-- The reference's comparison of two candidates. -/
theorem pick (v c : Ideal .f32) {i n : ℕ} (hi : i < 2 ^ 31) (hn : n < 2 ^ 31) :
    ReferenceIdeal.reducer_argmax_f32_i32 (F := Ideal) (v, BitVec.ofNat 32 i) (c, BitVec.ofNat 32 n)
      = if (c : EReal) < v then (v, BitVec.ofNat 32 i) else if (v : EReal) = c then (v, BitVec.ofNat 32 (min i n)) else (c, BitVec.ofNat 32 n) := by
  have h1 : FloatOps.cmpf .ogt v c = BitVec.ofBool (decide ((c : EReal) < v)) := rfl
  have h2 : FloatOps.cmpf .une v v = 0#1 := by show Ideal.cmp .une v v = _; simp [Ideal.cmp]
  have h3 : FloatOps.cmpf .oeq v c = BitVec.ofBool (decide ((v : EReal) = c)) := rfl
  have h4 : IntOp.cmpi .slt (BitVec.ofNat 32 i) (BitVec.ofNat 32 n) = BitVec.ofBool (decide (i < n)) := WordCmp.cmpi_slt_ofNat hi hn
  unfold ReferenceIdeal.reducer_argmax_f32_i32
  dsimp only
  rw [h1, h2, h3, h4]
  by_cases ha : (c : EReal) < v
  · rw [if_pos ha, decide_eq_true ha]
    exact Prod.ext (sel_one v c (by show IntOp.ori (BitVec.ofBool true) 0#1 = 1#1; decide)) (sel_one (BitVec.ofNat 32 i) (BitVec.ofNat 32 n) ((by decide : ∀ p q, IntOp.ori (IntOp.ori (BitVec.ofBool true) 0#1) (IntOp.andi (BitVec.ofBool p) (BitVec.ofBool q)) = 1#1) _ _))
  · rw [if_neg ha, decide_eq_false ha]
    by_cases hb : (v : EReal) = c
    · rw [if_pos hb, decide_eq_true hb]
      refine Prod.ext ((sel_zero v c (by show IntOp.ori (BitVec.ofBool false) 0#1 = 0#1; decide)).trans hb.symm) ?_
      by_cases hq : i < n
      · rw [decide_eq_true hq, min_eq_left hq.le]; exact sel_one (BitVec.ofNat 32 i) (BitVec.ofNat 32 n) (by show IntOp.ori (IntOp.ori (BitVec.ofBool false) 0#1) (IntOp.andi (BitVec.ofBool true) (BitVec.ofBool true)) = 1#1; decide)
      · rw [decide_eq_false hq, min_eq_right (not_lt.mp hq)]; exact sel_zero (BitVec.ofNat 32 i) (BitVec.ofNat 32 n) (by show IntOp.ori (IntOp.ori (BitVec.ofBool false) 0#1) (IntOp.andi (BitVec.ofBool true) (BitVec.ofBool false)) = 0#1; decide)
    · rw [if_neg hb, decide_eq_false hb]
      exact Prod.ext (sel_zero v c (by show IntOp.ori (BitVec.ofBool false) 0#1 = 0#1; decide)) (sel_zero (BitVec.ofNat 32 i) (BitVec.ofNat 32 n) ((by decide : ∀ q, IntOp.ori (IntOp.ori (BitVec.ofBool false) 0#1) (IntOp.andi (BitVec.ofBool false) (BitVec.ofBool q)) = 0#1) _))

/-- The best over a set and one place more. -/
theorem Best.one (h : Best S c v i) (n : ℕ) : ∃ v' i',
    (if c n < v then (v, i) else if v = c n then (v, min i n) else (c n, n)) = (v', i') ∧ Best (fun k => S k ∨ k = n) c v' i' := by
  by_cases ha : c n < v
  · rw [if_pos ha]
    refine ⟨v, i, rfl, fun k hk => hk.elim (h.le k) fun e => e ▸ ha.le, h.found.imp id fun ⟨h0, hS, e, hm⟩ => ⟨h0, .inl hS, e, fun k hk ek => ?_⟩⟩
    rcases hk with hk | rfl
    · exact hm k hk ek
    · exact absurd ek ha.ne
  · rw [if_neg ha]
    by_cases hb : v = c n
    · rw [if_pos hb]
      refine ⟨v, min i n, rfl, fun k hk => hk.elim (h.le k) fun e => e ▸ hb.ge, ?_⟩
      rcases h.found with ⟨e, rfl⟩ | ⟨h0, hS, e, hm⟩
      · exact .inl ⟨e, Nat.zero_min n⟩
      · refine .inr ⟨h0, ?_, ?_, fun k hk ek => ?_⟩
        · rcases min_choice i n with e' | e' <;> rw [e']
          · exact .inl hS
          · exact .inr rfl
        · rcases min_choice i n with e' | e' <;> rw [e']
          · exact e
          · exact hb.symm
        · rcases hk with hk | rfl
          · exact (min_le_left _ _).trans (hm k hk ek)
          · exact min_le_right _ _
    · rw [if_neg hb]
      have hv : v < c n := lt_of_le_of_ne (not_lt.mp ha) hb
      refine ⟨c n, n, rfl, fun k hk => hk.elim (fun hk => (h.le k hk).trans hv.le) fun e => e ▸ le_refl _, .inr ⟨lt_of_le_of_lt bot_le hv, .inr rfl, rfl, fun k hk ek => ?_⟩⟩
      rcases hk with hk | rfl
      · exact absurd ek (lt_of_le_of_lt (h.le k hk) hv).ne
      · exact le_refl _

/-- The reference's fold over a list of places, in any order. -/
theorem Best.fold (l : List ℕ) : ∀ {S : ℕ → Prop} {v : EReal} {i : ℕ}, (∀ n ∈ l, n < 2 ^ 31) → i < 2 ^ 31 → Best S c v i →
    ∃ v' i', (l.map fun n => ((c n : Ideal .f32), BitVec.ofNat 32 n)).foldl (ReferenceIdeal.reducer_argmax_f32_i32 (F := Ideal)) (v, BitVec.ofNat 32 i) = (v', BitVec.ofNat 32 i')
      ∧ Best (fun k => S k ∨ k ∈ l) c v' i' := by
  induction l with
  | nil => intro S v i _ _ h; exact ⟨v, i, rfl, h.widen (fun n hn => .inl hn) fun n hn hn' => hn.elim (fun hS => absurd hS hn') fun hm => by simp at hm⟩
  | cons n l ih =>
    intro S v i hl hi h
    have hn : n < 2 ^ 31 := hl n (List.mem_cons_self ..)
    obtain ⟨v', i', e, h'⟩ := h.one n
    have hi' : i' < 2 ^ 31 ∧ ReferenceIdeal.reducer_argmax_f32_i32 (F := Ideal) (v, BitVec.ofNat 32 i) (c n, BitVec.ofNat 32 n) = (v', BitVec.ofNat 32 i') := by
      rw [pick _ _ hi hn]
      by_cases ha : c n < v
      · rw [if_pos ha] at e ⊢
        cases e
        exact ⟨hi, rfl⟩
      · rw [if_neg ha] at e ⊢
        by_cases hb : v = c n
        · rw [if_pos hb] at e ⊢
          cases e
          exact ⟨lt_of_le_of_lt (min_le_right _ _) hn, rfl⟩
        · rw [if_neg hb] at e ⊢
          cases e
          exact ⟨hn, rfl⟩
    obtain ⟨v'', i'', e'', h''⟩ := ih (fun k hk => hl k (List.mem_cons_of_mem _ hk)) hi'.1 h'
    refine ⟨v'', i'', ?_, h''.widen (fun k hk => ?_) fun k hk hk' => ?_⟩
    · rw [List.map_cons, List.foldl_cons, hi'.2, e'']
    · rcases hk with (hk | rfl) | hk
      · exact .inl hk
      · exact .inr (List.mem_cons_self ..)
      · exact .inr (List.mem_cons_of_mem _ hk)
    · refine absurd ?_ hk'
      rcases hk with hk | hk
      · exact .inl (.inl hk)
      · rcases List.mem_cons.mp hk with rfl | hk
        · exact .inl (.inr rfl)
        · exact .inr hk

end Cert.Best

end
-- ==== Proof.Softmax.lean ====
module

public import Idealize.ShloMosaic.PureOps.Ideal.Laws

@[expose] public section

set_option maxRecDepth 16384

noncomputable section

namespace Cert.Soft

open Idealize.ShloMosaic

/-- The weight of a logit against `μ`, nothing for −∞, -/
def wt (L : EReal) (μ : ℝ) : ℝ := if L = ⊥ then 0 else Real.exp (L.toReal - μ)

variable {ι : Type}

/-- the sum of the weights, -/
def Z (S : Finset ι) (L : ι → EReal) (μ : ℝ) : ℝ := ∑ n ∈ S, wt (L n) μ
/-- and the sum of the logits by weight. -/
def A (S : Finset ι) (L : ι → EReal) (μ : ℝ) : ℝ := ∑ n ∈ S, wt (L n) μ * (L n).toReal

theorem exp_real (x : ℝ) : Ideal.exp (x : EReal) = (Real.exp x : EReal) := rfl

/-- A logit that is not +∞ is −∞ or real. -/
theorem cases_real {L : EReal} (h : L < ⊤) : L = ⊥ ∨ ∃ x : ℝ, L = x := by
  induction L with
  | bot => exact .inl rfl
  | coe x => exact .inr ⟨x, rfl⟩
  | top => exact absurd rfl h.ne

theorem exp_shift {L : EReal} (h : L < ⊤) (μ : ℝ) : Ideal.exp (L - (μ : EReal)) = (wt L μ : EReal) := by
  rcases cases_real h with rfl | ⟨x, rfl⟩
  · rw [EReal.bot_sub]; unfold wt; rw [if_pos rfl]; rfl
  · rw [← EReal.coe_sub, exp_real]; unfold wt; rw [if_neg (EReal.coe_ne_bot x), EReal.toReal_coe]

theorem exp_term {L : EReal} (h : L < ⊤) (μ : ℝ) : Ideal.exp (L - (μ : EReal)) * L = ((wt L μ * L.toReal : ℝ) : EReal) := by
  rw [exp_shift h]
  rcases cases_real h with rfl | ⟨x, rfl⟩
  · unfold wt; rw [if_pos rfl, EReal.coe_zero, zero_mul, zero_mul]; rfl
  · rw [← EReal.coe_mul, EReal.toReal_coe]

/-- Moving the reference point of the weights. -/
theorem wt_move (L : EReal) (μ μ' : ℝ) : wt L μ * Real.exp (μ - μ') = wt L μ' := by
  unfold wt
  split
  · exact zero_mul _
  · rw [← Real.exp_add]; congr 1; ring

theorem Z_move (S : Finset ι) (L : ι → EReal) (μ μ' : ℝ) : Z S L μ * Real.exp (μ - μ') = Z S L μ' := by
  unfold Z; rw [Finset.sum_mul]; exact Finset.sum_congr rfl fun n _ => wt_move _ _ _

theorem A_move (S : Finset ι) (L : ι → EReal) (μ μ' : ℝ) : A S L μ * Real.exp (μ - μ') = A S L μ' := by
  unfold A; rw [Finset.sum_mul]; exact Finset.sum_congr rfl fun n _ => by rw [mul_right_comm, wt_move]

theorem Z_bot {S : Finset ι} {L : ι → EReal} (h : ∀ n ∈ S, L n = ⊥) (μ : ℝ) : Z S L μ = 0 :=
  Finset.sum_eq_zero fun n hn => by unfold wt; rw [if_pos (h n hn)]

theorem A_bot {S : Finset ι} {L : ι → EReal} (h : ∀ n ∈ S, L n = ⊥) (μ : ℝ) : A S L μ = 0 :=
  Finset.sum_eq_zero fun n hn => by unfold wt; rw [if_pos (h n hn), zero_mul]

/-- The running maximum and sums over `S`. -/
def Soft (S : Finset ι) (L : ι → EReal) (m z a : EReal) : Prop :=
  (m = ⊥ ∧ z = 0 ∧ a = 0 ∧ ∀ n ∈ S, L n = ⊥) ∨
  ∃ μ : ℝ, m = μ ∧ (∀ n ∈ S, L n ≤ μ) ∧ (∃ n ∈ S, L n = μ) ∧ z = (Z S L μ : EReal) ∧ a = (A S L μ : EReal)

/-- A sum of reals read as extended reals. -/
theorem coe_sum (s : Finset ι) (f : ι → ℝ) : ((∑ n ∈ s, f n : ℝ) : EReal) = ∑ n ∈ s, (f n : EReal) := by
  classical
  induction s using Finset.induction_on with
  | empty => rfl
  | insert a s ha ih => rw [Finset.sum_insert ha, Finset.sum_insert ha, EReal.coe_add, ih]

/-- The running sums brought to a new maximum. -/
theorem Soft.move {S : Finset ι} {L : ι → EReal} {m z a : EReal} (h : Soft S L m z a) (μ : ℝ) :
    z * Ideal.exp (m - (μ : EReal)) = (Z S L μ : EReal) ∧ a * Ideal.exp (m - (μ : EReal)) = (A S L μ : EReal) := by
  rcases h with ⟨rfl, rfl, rfl, hb⟩ | ⟨μ₀, rfl, -, -, rfl, rfl⟩
  · rw [zero_mul, Z_bot hb, A_bot hb]; exact ⟨rfl, rfl⟩
  · rw [← EReal.coe_sub, exp_real, ← EReal.coe_mul, ← EReal.coe_mul, Z_move, A_move]; exact ⟨rfl, rfl⟩

/-- One block more: `B` the block, `f` its logits. -/
theorem Soft.block [DecidableEq ι] {S B : Finset ι} {L : ι → EReal} {m z a m' : EReal} (h : Soft S L m z a) (hd : Disjoint S B)
    (hfin : ∀ n ∈ B, L n < ⊤) (hm : m' = max m (Finset.fold max ⊥ L B)) :
    Soft (S ∪ B) L m' (z * Ideal.exp (m - m') + ∑ n ∈ B, Ideal.exp (L n - m')) (a * Ideal.exp (m - m') + ∑ n ∈ B, Ideal.exp (L n - m') * L n) := by
  have hmS : ∀ n ∈ S, L n ≤ m := by
    rcases h with ⟨rfl, -, -, hb⟩ | ⟨μ, rfl, hle, -⟩
    · exact fun n hn => (hb n hn).le
    · exact hle
  have hle : ∀ n ∈ S ∪ B, L n ≤ m' := fun n hn => by
    rw [hm]
    rcases Finset.mem_union.mp hn with hn | hn
    · exact (hmS n hn).trans (le_max_left _ _)
    · exact le_trans ((Finset.le_fold_max _).mpr (.inr ⟨n, hn, le_refl _⟩)) (le_max_right _ _)
  have hat : ⊥ < m' → ∃ n ∈ S ∪ B, L n = m' := fun hb => by
    rcases max_choice m (Finset.fold max ⊥ L B) with e | e <;> rw [e] at hm
    · rcases h with ⟨rfl, -, -, -⟩ | ⟨μ, rfl, -, ⟨n, hn, en⟩, -⟩
      · exact absurd hm hb.ne'
      · exact ⟨n, Finset.mem_union_left _ hn, en.trans hm.symm⟩
    · rcases (Finset.le_fold_max (Finset.fold max ⊥ L B)).mp (le_refl _) with h' | ⟨n, hn, h'⟩
      · exact absurd (hm.trans (le_bot_iff.mp h')) hb.ne'
      · exact ⟨n, Finset.mem_union_right _ hn, le_antisymm (hle n (Finset.mem_union_right _ hn)) (hm ▸ h')⟩
  have hS : ∀ n ∈ S ∪ B, L n < ⊤ := fun n hn => by
    rcases Finset.mem_union.mp hn with hn | hn
    · rcases h with ⟨-, -, -, hb⟩ | ⟨μ, -, hle, -⟩
      · rw [hb n hn]; exact bot_lt_top
      · exact lt_of_le_of_lt (hle n hn) (EReal.coe_lt_top μ)
    · exact hfin n hn
  rcases eq_or_ne m' ⊥ with hb | hb
  · have hall : ∀ n ∈ S ∪ B, L n = ⊥ := fun n hn => le_bot_iff.mp (hb ▸ hle n hn)
    have hm0 : m = ⊥ := le_bot_iff.mp (hb ▸ hm ▸ le_max_left _ _)
    have hz : z = 0 ∧ a = 0 := by
      rcases h with ⟨-, hz, ha, -⟩ | ⟨μ, e, -⟩
      · exact ⟨hz, ha⟩
      · exact absurd (e.symm.trans hm0) (EReal.coe_ne_bot μ)
    refine .inl ⟨hb, ?_, ?_, hall⟩
    · rw [hz.1, zero_mul, zero_add]
      refine Finset.sum_eq_zero fun n hn => ?_
      rw [hall n (Finset.mem_union_right _ hn), EReal.bot_sub]; rfl
    · rw [hz.2, zero_mul, zero_add]
      refine Finset.sum_eq_zero fun n hn => ?_
      rw [hall n (Finset.mem_union_right _ hn), EReal.bot_sub]
      exact zero_mul _
  · obtain ⟨n₀, hn₀, e₀⟩ := hat (bot_lt_iff_ne_bot.mpr hb)
    obtain ⟨μ, hμ⟩ : ∃ μ : ℝ, m' = μ := by
      rcases cases_real (hS n₀ hn₀) with e | ⟨μ, e⟩
      · exact absurd (e₀.symm.trans e) hb
      · exact ⟨μ, e₀.symm.trans e⟩
    refine .inr ⟨μ, hμ, hμ ▸ hle, ⟨n₀, hn₀, hμ ▸ e₀⟩, ?_, ?_⟩
    · rw [hμ, (h.move μ).1]
      unfold Z
      rw [Finset.sum_union hd, EReal.coe_add, coe_sum B]
      exact congrArg _ (Finset.sum_congr rfl fun n hn => exp_shift (hfin n hn) μ)
    · rw [hμ, (h.move μ).2]
      unfold A
      rw [Finset.sum_union hd, EReal.coe_add, coe_sum B]
      exact congrArg _ (Finset.sum_congr rfl fun n hn => exp_term (hfin n hn) μ)

/-- The weights against the maximum sum to more than nothing. -/
theorem Z_pos {S : Finset ι} {L : ι → EReal} {μ : ℝ} (h : ∃ n ∈ S, L n = μ) : 0 < Z S L μ := by
  obtain ⟨n, hn, e⟩ := h
  refine Finset.sum_pos' (fun k _ => ?_) ⟨n, hn, ?_⟩
  · unfold wt; split
    · exact le_refl _
    · exact (Real.exp_pos _).le
  · unfold wt; rw [e, if_neg (EReal.coe_ne_bot μ)]; exact Real.exp_pos _

theorem log_pos' {x : ℝ} (h : 0 < x) : Ideal.log (x : EReal) = (Real.log x : EReal) := by
  show (if x ≤ 0 then ⊥ else (Real.log x : EReal)) = _
  rw [if_neg (not_le.mpr h)]

/-- The entropy as the kernel reads it off the running sums. -/
theorem ent_sums {S : Finset ι} {L : ι → EReal} {μ : ℝ} (h : ∃ n ∈ S, L n = μ) :
    (μ : EReal) + Ideal.log (Z S L μ : EReal) - Ideal.div (A S L μ : EReal) (Z S L μ : EReal) = ((μ + Real.log (Z S L μ) - A S L μ / Z S L μ : ℝ) : EReal) := by
  have hz := Z_pos h
  rw [log_pos' hz]
  unfold Ideal.div
  rw [if_neg (by exact_mod_cast hz.ne'), ← EReal.coe_inv, ← EReal.coe_mul, ← EReal.coe_add, ← EReal.coe_sub, div_eq_mul_inv]

/-- The entropy as the sum of the probabilities times their logarithms. -/
theorem ent_probs {S : Finset ι} {L : ι → EReal} {μ : ℝ} (hfin : ∀ n ∈ S, L n < ⊤) (h : ∃ n ∈ S, L n = μ) :
    -(∑ n ∈ S, Ideal.exp (L n - (μ : EReal) - Ideal.log (∑ n ∈ S, Ideal.exp (L n - (μ : EReal)))) * (L n - (μ : EReal) - Ideal.log (∑ n ∈ S, Ideal.exp (L n - (μ : EReal)))))
      = ((μ + Real.log (Z S L μ) - A S L μ / Z S L μ : ℝ) : EReal) := by
  have hz := Z_pos h
  have hsum : ∑ n ∈ S, Ideal.exp (L n - (μ : EReal)) = (Z S L μ : EReal) := by
    unfold Z; rw [coe_sum]; exact Finset.sum_congr rfl fun n hn => exp_shift (hfin n hn) μ
  rw [hsum, log_pos' hz]
  have hterm : ∀ n ∈ S, Ideal.exp (L n - (μ : EReal) - (Real.log (Z S L μ) : EReal)) * (L n - (μ : EReal) - (Real.log (Z S L μ) : EReal))
      = ((wt (L n) μ * (L n).toReal / Z S L μ - (μ + Real.log (Z S L μ)) * (wt (L n) μ / Z S L μ) : ℝ) : EReal) := fun n hn => by
    rcases cases_real (hfin n hn) with e | ⟨x, e⟩
    · rw [e, EReal.bot_sub, EReal.bot_sub]
      unfold wt
      rw [if_pos rfl, zero_mul, zero_div, mul_zero, sub_zero]
      exact zero_mul _
    · rw [e, ← EReal.coe_sub, ← EReal.coe_sub, exp_real, ← EReal.coe_mul]
      unfold wt
      rw [if_neg (EReal.coe_ne_bot x), EReal.toReal_coe, Real.exp_sub, Real.exp_log hz]
      congr 1
      ring
  rw [Finset.sum_congr rfl hterm, ← coe_sum, ← EReal.coe_neg]
  congr 1
  rw [Finset.sum_sub_distrib, ← Finset.mul_sum, ← Finset.sum_div, ← Finset.sum_div]
  show -(A S L μ / Z S L μ - (μ + Real.log (Z S L μ)) * (Z S L μ / Z S L μ)) = _
  rw [div_self hz.ne']
  ring

end Cert.Soft

end
-- ==== Proof.RefRows.lean ====
module

public import proofs.«01_k».proof.Proof.Draws
public import proofs.«01_k».proof.Proof.RefEntropy
public import proofs.«01_k».proof.Proof.Best
public import proofs.«01_k».proof.Proof.Softmax
public import Idealize.ShloMosaic.Lib.Pointwise
public import Idealize.ShloMosaic.Lib.IdealHost

@[expose] public section

set_option maxRecDepth 16384

noncomputable section

namespace Cert.ReferenceIdeal.Gen

open Idealize.ShloMosaic Cert.Best Cert.Soft

variable (x : FVec Ideal S128x100000 .f32)

/-! ## The samples -/

theorem addf_at {s : Shape} (a b : FVec Ideal s .f32) (j : s.Idx) : addf a b j = a j + b j := rfl
theorem maximumf_at {s : Shape} (a b : FVec Ideal s .f32) (j : s.Idx) : maximumf a b j = max (a j) (b j) := rfl

theorem over_at (j : S5x128x100000.Idx) : broadcastInDim S5x128x100000 ![0, 1, 2] bcast_S1x128x100000_S5x128x100000_0_1_2
    (broadcastInDim S1x128x100000 ![1, 2] bcast_S128x100000_S1x128x100000_1_2 x) j = x (ix2 (j 1) (j 2)) := by
  pointwise

/-- A candidate of the reference. -/
theorem cands_at (j : S5x128x100000.Idx) : cands x j = gumbel (F := Ideal) (Threefry.word (count j)) + x (ix2 (j 1) (j 2)) :=
  (addf_at _ _ j).trans (congrArg (HAdd.hAdd _) (over_at x j))

/-- The places of a row, in the order the reduction takes them. -/
def places (i : S5x128.Idx) : List ℕ :=
  ((List.finRange S5x128x100000.numel).filter fun n => Shape.ReducesTo.drop reducesTo_S5x128x100000_S5x128_d2 (S5x128x100000.rowMajor.symm n) = i).map
    fun n => (S5x128x100000.rowMajor.symm n 2).val

theorem drop_iff (j : S5x128x100000.Idx) (i : S5x128.Idx) :
    Shape.ReducesTo.drop reducesTo_S5x128x100000_S5x128_d2 j = i ↔ (j 0).val = (i 0).val ∧ (j 1).val = (i 1).val := by
  have h0 := Shape.ReducesTo.drop_apply_val_of_eq reducesTo_S5x128x100000_S5x128_d2 j 0 0
  have h1 := Shape.ReducesTo.drop_apply_val_of_eq reducesTo_S5x128x100000_S5x128_d2 j 1 1
  constructor
  · rintro rfl; exact ⟨h0.symm, h1.symm⟩
  · rintro ⟨e0, e1⟩
    exact funext fun a => Fin.ext (match a with | ⟨0, _⟩ => h0.trans e0 | ⟨1, _⟩ => h1.trans e1)

theorem mem_places (i : S5x128.Idx) (n : ℕ) : n ∈ places i ↔ n < 100000 := by
  unfold places
  simp only [List.mem_map, List.mem_filter, List.mem_finRange, true_and, decide_eq_true_eq, drop_iff]
  constructor
  · rintro ⟨k, -, rfl⟩; exact (S5x128x100000.rowMajor.symm k 2).isLt
  · intro h
    refine ⟨S5x128x100000.rowMajor (ix3 (i 0) (i 1) ⟨n, h⟩), ?_, ?_⟩ <;> rw [Equiv.symm_apply_apply]
    · exact ⟨rfl, rfl⟩
    · rfl

/-- The reference's sample of a row: the first place of the largest candidate. -/
theorem sample_at (i : S5x128.Idx) (c : ℕ → EReal)
    (hc : ∀ n (h : n < 100000), c n = gumbel (F := Ideal) (Threefry.word (BitVec.ofNat 32 (12800000 * (i 0).val + 100000 * (i 1).val + n))) + x (ix2 (i 1) ⟨n, h⟩)) :
    ∃ v k, Best (· < 100000) c v k ∧
      (Host.argReduce reducer_argmax_f32_i32 (cands x) (iotaInDim S5x128x100000 32 2) (constant S_ .f32 0xFF800000#32) (constantI S_ 32 0#32)
        reducesTo_S5x128x100000_S5x128_d2 h_S_ i).2 = BitVec.ofNat 32 k := by
  have hl : Host.argReduceFiber (cands x) (iotaInDim S5x128x100000 32 2) reducesTo_S5x128x100000_S5x128_d2 i
      = (places i).map fun n => ((c n : Ideal .f32), BitVec.ofNat 32 n) := by
    have key : ∀ j : S5x128x100000.Idx, (j 0).val = (i 0).val → (j 1).val = (i 1).val → cands x j = c (j 2).val := fun j h0 h1 => by
      have e1 : j 1 = i 1 := Fin.ext h1
      have hw : count j = BitVec.ofNat 32 (12800000 * (i 0).val + 100000 * (i 1).val + (j 2).val) := by unfold count; rw [h0, h1]
      have hn := hc (j 2).val (j 2).isLt
      rw [show (⟨(j 2).val, (j 2).isLt⟩ : Fin 100000) = j 2 from rfl] at hn
      rw [cands_at, hn, hw, e1]
    have hio : ∀ j : S5x128x100000.Idx, iotaInDim S5x128x100000 32 2 j = BitVec.ofNat 32 (j 2).val := fun _ => rfl
    unfold Host.argReduceFiber places
    rw [List.map_map]
    refine List.map_congr_left fun n hn => ?_
    obtain ⟨h0, h1⟩ := (drop_iff _ _).mp (of_decide_eq_true (List.mem_filter.mp hn).2)
    exact congrArg₂ Prod.mk (key _ h0 h1) (hio _)
  have h0 : Ideal.ofBits .f32 4286578688#32 = ⊥ := by simp [Ideal.ofBits, Ideal.ieee]
  obtain ⟨v, k, e, hb⟩ := Best.fold (c := c) (places i) (S := fun _ => False) (v := ⊥) (i := 0)
    (fun n hn => lt_trans ((mem_places i n).mp hn) (by norm_num)) (by norm_num) (Best.none fun _ => id)
  refine ⟨v, k, hb.widen (fun n hn => (mem_places i n).mp (hn.resolve_left id)) fun n hn hn' => absurd (.inr ((mem_places i n).mpr hn)) hn', ?_⟩
  rw [Ideal.argReduce_eq_reduce2, Host.reduce2_eq_foldl_fiber, hl]
  rw [← h0] at e
  exact congrArg Prod.snd e

/-! ## The entropy -/

/-- The largest of a row, however long. -/
theorem hostMax_at {n : ℕ} (h : (⟨2, ![128, n]⟩ : Shape).ReducesTo [1] S128) (x : FVec Ideal (⟨2, ![128, n]⟩ : Shape) .f32) (r : Fin 128) :
    Host.reduce FloatOps.maximumf x (constant S_ .f32 0xFF800000#32) h h_S_ (ix1 r) = Finset.fold max (Ideal.ofBits .f32 4286578688#32) (fun k => x (ix2 r k)) Finset.univ := by
  pointwise

theorem rowMax_at (r : Fin 128) : rowMax x (ix1 r) = max ⊥ (Finset.fold max ⊥ (fun n : Fin 100000 => x (ix2 r n)) Finset.univ) := by
  have h0 : Ideal.ofBits .f32 4286578688#32 = ⊥ := by simp [Ideal.ofBits, Ideal.ieee]
  unfold rowMax
  have hb : broadcastInDim S128 ![] bcast_S_S128 (constant (F := Ideal) S_ .f32 0xFF800000#32) (ix1 r) = ⊥ := h0
  rw [maximumf_at, hostMax_at, hb, h0]

theorem rowMax_eq (r : Fin 128) (μ : ℝ) (hle : ∀ n, x (ix2 r n) ≤ (μ : EReal)) (hat : ∃ n, x (ix2 r n) = (μ : EReal)) : rowMax x (ix1 r) = (μ : EReal) := by
  rw [rowMax_at, max_eq_right bot_le]
  obtain ⟨n, hn⟩ := hat
  exact le_antisymm ((Finset.fold_max_le _).mpr ⟨bot_le, fun n _ => hle n⟩) ((Finset.le_fold_max _).mpr (.inr ⟨n, Finset.mem_univ _, hn.ge⟩))

theorem shifted_at (r : Fin 128) (n : Fin 100000) : shifted x (ix2 r n) = x (ix2 r n) - rowMax x (ix1 r) := by
  unfold shifted
  pointwise

theorem logProb_at (r : Fin 128) (n : Fin 100000) : logProb x (ix2 r n) = shifted x (ix2 r n) - Ideal.log (∑ k : Fin 100000, Ideal.exp (shifted x (ix2 r k))) := by
  unfold logProb
  pointwise

theorem negSum_at (r : Fin 128) : Host.negf (Host.reduceAdd (mulf (Host.exp (logProb x)) (logProb x)) (constant S_ .f32 0x00000000#32) reducesTo_S128x100000_S128_d1 h_S_) (ix1 r)
    = -(∑ n : Fin 100000, Ideal.exp (logProb x (ix2 r n)) * logProb x (ix2 r n)) := by
  pointwise

/-- The reference's entropy of a row whose largest logit is real. -/
theorem entropy_at (r : Fin 128) (μ : ℝ) (hle : ∀ n, x (ix2 r n) ≤ (μ : EReal)) (hat : ∃ n, x (ix2 r n) = (μ : EReal)) :
    Host.negf (Host.reduceAdd (mulf (Host.exp (logProb x)) (logProb x)) (constant S_ .f32 0x00000000#32) reducesTo_S128x100000_S128_d1 h_S_) (ix1 r)
      = ((μ + Real.log (Z Finset.univ (fun n => x (ix2 r n)) μ) - A Finset.univ (fun n => x (ix2 r n)) μ / Z Finset.univ (fun n => x (ix2 r n)) μ : ℝ) : EReal) := by
  rw [negSum_at, ← ent_probs (fun n _ => lt_of_le_of_lt (hle n) (EReal.coe_lt_top μ)) (hat.imp fun n e => ⟨Finset.mem_univ _, e⟩)]
  simp only [logProb_at, shifted_at, rowMax_eq x r μ hle hat]

end Cert.ReferenceIdeal.Gen

end
-- ==== Proof.Noise.lean ====
module

public import proofs.«01_k».proof.Proof.Threefry
public import proofs.«01_k».proof.Proof.Draws
public import Idealize.ShloMosaic.Lib.Pointwise
public import Idealize.ShloMosaic.Lib.IdealHost
public import Idealize.ShloMosaic.PureOps.Ideal.Laws

@[expose] public section

set_option maxRecDepth 16384

noncomputable section

namespace Cert.Noise

open Idealize.ShloMosaic

/-- A drawn word made a float: the float of its upper bits in [1, 2), less one, which is not negative. -/
theorem unit_nonneg (w : BitVec 32) : (0 : EReal) ≤ Ideal.ofBits .f32 (w >>> 9#32 ||| 1065353216#32) - 1 := by
  have he : (w >>> 9#32 ||| 1065353216#32).extractLsb' 23 8 = 127#8 := by
    ext i hi
    simp only [BitVec.getElem_extractLsb', BitVec.getLsbD_or, BitVec.getLsbD_ushiftRight]
    have hw : (w >>> 9#32).getLsbD (23 + i) = false := by
      have h : (w >>> 9#32).getLsbD (23 + i) = w.getLsbD (9 + (23 + i)) := by
        rw [BitVec.ushiftRight_eq', BitVec.getLsbD_ushiftRight]; rfl
      rw [h]; exact BitVec.getLsbD_of_ge _ _ (by omega)
    rw [hw, Bool.false_or]
    exact (by decide : ∀ i, (hi : i < 8) → (1065353216#32).getLsbD (23 + i) = (127#8)[i]) i hi
  have hs : (w >>> 9#32 ||| 1065353216#32).extractLsb' 31 1 = 0#1 := by
    ext i hi
    simp only [BitVec.getElem_extractLsb', BitVec.getLsbD_or]
    have hw : (w >>> 9#32).getLsbD (31 + i) = false := by
      have h : (w >>> 9#32).getLsbD (31 + i) = w.getLsbD (9 + (31 + i)) := by
        rw [BitVec.ushiftRight_eq', BitVec.getLsbD_ushiftRight]; rfl
      rw [h]; exact BitVec.getLsbD_of_ge _ _ (by omega)
    rw [hw, Bool.false_or]
    exact (by decide : ∀ i, (hi : i < 1) → (1065353216#32).getLsbD (31 + i) = (0#1)[i]) i hi
  have h : Ideal.ofBits .f32 (w >>> 9#32 ||| 1065353216#32)
      = ((1 * (2 ^ 23 + ((w >>> 9#32 ||| 1065353216#32).extractLsb' 0 23).toNat : ℕ) * (2 : ℝ) ^ (-23 : ℤ) : ℝ) : EReal) := by
    show Ideal.ieee 8 23 _ = _
    unfold Ideal.ieee
    rw [show 8 + 23 = 31 from rfl, he, hs]
    rfl
  rw [h]
  generalize ((w >>> 9#32 ||| 1065353216#32).extractLsb' 0 23).toNat = n
  rw [show (1 : EReal) = ((1 : ℝ) : EReal) from rfl, ← EReal.coe_sub]
  refine EReal.coe_nonneg.mpr ?_
  have hn : (0 : ℝ) ≤ (n : ℝ) := Nat.cast_nonneg n
  have h2 : (2 : ℝ) ^ (-23 : ℤ) = 1 / 8388608 := by norm_num
  rw [h2]; push_cast; linarith [show (2 : ℝ) ^ 23 = 8388608 by norm_num]

/-- The least normal float is not negative. -/
theorem tiny_nonneg : (0 : EReal) ≤ Ideal.ofBits .f32 0x00800000#32 := by
  have h : Ideal.ofBits .f32 0x00800000#32 = ((2 : ℝ) ^ (-126 : ℤ) : ℝ) := by
    simp [Ideal.ofBits, Ideal.ieee, -EReal.coe_mul]; norm_num
  rw [h]; exact EReal.coe_nonneg.mpr (by positivity)

/-- The two spellings of the noise of a word. -/
theorem gumbel_eq (w : BitVec 32) : (KernelIdeal.Gen.gumbel w : Ideal .f32) = ReferenceIdeal.Gen.gumbel w := by
  have h1 : Ideal.ofBits .f32 0x3F800000#32 = 1 := Ideal.ofBits_one_f32
  have h0 : Ideal.ofBits .f32 0x00000000#32 = 0 := by simp [Ideal.ofBits, Ideal.ieee]
  have hu := unit_nonneg w
  have ht := tiny_nonneg
  show Ideal.ofBits .f32 0x00000000#32 - Ideal.log (Ideal.ofBits .f32 0x00000000#32 - Ideal.log (max (Ideal.ofBits .f32 0x00800000#32)
      ((Ideal.ofBits .f32 (w >>> 9#32 ||| 1065353216#32) - Ideal.ofBits .f32 0x3F800000#32) * Ideal.ofBits .f32 0x3F800000#32 + Ideal.ofBits .f32 0x00800000#32)))
    = -(Ideal.log (-(Ideal.log (max (Ideal.ofBits .f32 0x00000000#32)
      ((Ideal.ofBits .f32 (w >>> 9#32 ||| 1065353216#32) - Ideal.ofBits .f32 0x3F800000#32) * (Ideal.ofBits .f32 0x3F800000#32 - Ideal.ofBits .f32 0x00000000#32) + Ideal.ofBits .f32 0x00000000#32)
        + Ideal.ofBits .f32 0x00800000#32))))
  rw [h1, h0, sub_zero, mul_one, add_zero, max_eq_right hu, max_eq_right (le_add_of_nonneg_left hu), zero_sub, zero_sub]

end Cert.Noise

namespace Cert.KernelIdeal.Gen

open Idealize.ShloMosaic

variable {F : FTy → Type} [FloatOps F]

/-- The noise of draw `k` at a row and a column. -/
def drawn (k r n : ℕ) : F .f32 := gumbel (Threefry.word (BitVec.ofNat 32 (12800000 * k + 100000 * r + n)))

theorem noiseOf_apply (w : IVec S128x2048 32) (y : S1x128x2048.Idx) : noiseOf (F := F) w y = gumbel (w (ix2 (y 1) (y 2))) := by
  unfold noiseOf; pointwise

/-- The counter of draw `k` at an entry of a block. -/
theorem counter_at (k : ℕ) (i : grid0.Coords) (j : S128x2048.Idx) :
    k0_pay3 j + k0_pay2 i j + BitVec.ofNat 32 (12800000 * k) = BitVec.ofNat 32 (12800000 * k + 100000 * (j 0).val + ((i 0).val * 2048 + (j 1).val)) := by
  have h3 : k0_pay3 j = BitVec.ofNat 32 (j 0).val * 100000#32 := by
    show iota .tc S128x2048 32 [0] _ j * _ = _
    rw [iota_single_apply]; rfl
  have h2 : k0_pay2 i j = BitVec.ofNat 32 (j 1).val + BitVec.ofNat 32 (i 0).val * 2048#32 := by
    show iota .tc S128x2048 32 [1] _ j + _ = _
    rw [iota_single_apply]; rfl
  rw [h3, h2, show (2048#32 : BitVec 32) = BitVec.ofNat 32 2048 from rfl, show (100000#32 : BitVec 32) = BitVec.ofNat 32 100000 from rfl,
    ← BitVec.ofNat_mul, ← BitVec.ofNat_mul, ← BitVec.ofNat_add, ← BitVec.ofNat_add, ← BitVec.ofNat_add]
  exact congrArg (BitVec.ofNat 32) (by omega)

/-- So the blocks of noise at an entry. -/
theorem block_at (k : ℕ) (i : grid0.Coords) (y : S1x128x2048.Idx) :
    noiseOf (F := F) (fun j => Threefry.word (k0_pay3 j + k0_pay2 i j + BitVec.ofNat 32 (12800000 * k))) y
      = drawn k (y 1).val ((i 0).val * 2048 + (y 2).val) := by
  rw [noiseOf_apply, counter_at]; rfl

theorem noise0_at (i : grid0.Coords) (y) : noise0 (F := F) i y = drawn 0 (y 1).val ((i 0).val * 2048 + (y 2).val) := by
  rw [noise0_eq]; exact block_at 0 i y
theorem noise1_at (i : grid0.Coords) (y) : noise1 (F := F) i y = drawn 1 (y 1).val ((i 0).val * 2048 + (y 2).val) := by
  rw [noise1_eq]; exact block_at 1 i y
theorem noise2_at (i : grid0.Coords) (y) : noise2 (F := F) i y = drawn 2 (y 1).val ((i 0).val * 2048 + (y 2).val) := by
  rw [noise2_eq]; exact block_at 2 i y
theorem noise3_at (i : grid0.Coords) (y) : noise3 (F := F) i y = drawn 3 (y 1).val ((i 0).val * 2048 + (y 2).val) := by
  rw [noise3_eq]; exact block_at 3 i y
theorem noise4_at (i : grid0.Coords) (y) : noise4 (F := F) i y = drawn 4 (y 1).val ((i 0).val * 2048 + (y 2).val) := by
  rw [noise4_eq]; exact block_at 4 i y

end Cert.KernelIdeal.Gen

end
-- ==== Proof.Arrays.lean ====
module

public import proofs.«01_k».proof.Proof.Run
public import proofs.«01_k».proof.Proof.Noise
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

variable {F : FTy → Type} [FloatOps F] (m : (ℓ : Loc nD τ sig) → Buf (Elt F) ℓ) (c : Dev nD)

/-! ## The tables of noise -/

/-- The whole table of draw `k`. -/
def table (k : ℕ) : S49x128x2048.Idx → Elt F .f32 := fun i => drawn k (i 1).val ((i 0).val * 2048 + (i 2).val)

/-- Where a block of a table lies: at its own number, and at the start of the other two axes. -/
theorem index_table0 : ∀ t : Fin cfg0.N, win0_0.index t 0 = (grid0.coords t 0).val ∧ win0_0.index t 1 = 0 ∧ win0_0.index t 2 = 0 := by decide +kernel
theorem index_table1 : ∀ t : Fin cfg1.N, win1_1.index t 0 = (grid1.coords t 0).val ∧ win1_1.index t 1 = 0 ∧ win1_1.index t 2 = 0 := by decide +kernel

/-- An entry of a table inside block `t`, as the first call writes it. -/
theorem table_entry0 (k : ℕ) (t : Fin cfg0.N) (y : S1x128x2048.Idx) :
    table (F := F) k ((win0_0.blk t).view.emb y) = drawn k (y 1).val ((grid0.coords t 0).val * 2048 + (y 2).val) := by
  obtain ⟨h0, h1, h2⟩ := index_table0 t
  have hy : (y 0).val < 1 := (y 0).isLt
  unfold table
  blk_simp
  rw [h0, h1, h2]
  congr 1 <;> omega

/-- The same, as the second call reads it. -/
theorem table_entry1 (k : ℕ) (t : Fin cfg1.N) (y : S1x128x2048.Idx) :
    table (F := F) k ((win1_1.blk t).view.emb y) = drawn k (y 1).val ((grid1.coords t 0).val * 2048 + (y 2).val) := by
  obtain ⟨h0, h1, h2⟩ := index_table1 t
  have hy : (y 0).val < 1 := (y 0).isLt
  unfold table
  blk_simp
  rw [h0, h1, h2]
  congr 1 <;> omega

section Tables

variable (V : Dev nD → Valuation τ sig (Elt F))

/-! The first call leaves the five tables. -/

theorem table0 : (dat0 V c).arrAt 0 cfg0.N = table 0 :=
  (dat0 V c).arrAt_eq_of_covers 0 _ (by decide +kernel) fun t hf y => (noise0_at (grid0.coords t) y).trans (table_entry0 0 t y).symm
theorem table1 : (dat0 V c).arrAt 1 cfg0.N = table 1 :=
  (dat0 V c).arrAt_eq_of_covers 1 _ (by decide +kernel) fun t hf y => (noise1_at (grid0.coords t) y).trans (table_entry0 1 t y).symm
theorem table2 : (dat0 V c).arrAt 2 cfg0.N = table 2 :=
  (dat0 V c).arrAt_eq_of_covers 2 _ (by decide +kernel) fun t hf y => (noise2_at (grid0.coords t) y).trans (table_entry0 2 t y).symm
theorem table3 : (dat0 V c).arrAt 3 cfg0.N = table 3 :=
  (dat0 V c).arrAt_eq_of_covers 3 _ (by decide +kernel) fun t hf y => (noise3_at (grid0.coords t) y).trans (table_entry0 3 t y).symm
theorem table4 : (dat0 V c).arrAt 4 cfg0.N = table 4 :=
  (dat0 V c).arrAt_eq_of_covers 4 _ (by decide +kernel) fun t hf y => (noise4_at (grid0.coords t) y).trans (table_entry0 4 t y).symm

end Tables

/-! The second call reads them block by block. -/

theorem W1_table (w : Fin cfg0.W) : W1 m c (Proc.devRef .tc (Pipeline.arrRef spec0 w)) = (dat0 (W0 m) c).arrAt w cfg0.N :=
  Pipeline.afterRegion_arr (dat0 (W0 m) c) (W0 m c) winFacts0.arr_inj w

/-- The five blocks of noise of point `t`, the draw a number. -/
def tabs (V : Dev nD → Valuation τ sig (Elt F)) (t : Fin cfg1.N) : Fin 5 → Vec F S1x128x2048 .f32 :=
  ![tab1 V c t, tab2 V c t, tab3 V c t, tab4 V c t, tab5 V c t]

theorem tabs_at (t : Fin cfg1.N) (k : Fin 5) (y : S1x128x2048.Idx) :
    tabs c (W1 m) t k y = drawn k.val (y 1).val ((grid1.coords t 0).val * 2048 + (y 2).val) := by
  refine Eq.trans ?_ (table_entry1 k.val t y)
  match k with
  | ⟨0, _⟩ => exact congrFun ((W1_table m c 0).trans (table0 c (W0 m))) _
  | ⟨1, _⟩ => exact congrFun ((W1_table m c 1).trans (table1 c (W0 m))) _
  | ⟨2, _⟩ => exact congrFun ((W1_table m c 2).trans (table2 c (W0 m))) _
  | ⟨3, _⟩ => exact congrFun ((W1_table m c 3).trans (table3 c (W0 m))) _
  | ⟨4, _⟩ => exact congrFun ((W1_table m c 4).trans (table4 c (W0 m))) _

/-! ## The logits -/

theorem index_x : ∀ t : Fin cfg1.N, win1_0.index t 0 = 0 ∧ win1_0.index t 1 = (grid1.coords t 0).val := by decide +kernel

/-- A logit of a block. -/
theorem xblock_at (V : Dev nD → Valuation τ sig (Elt F)) (x : S128x100000.Idx → Elt F .f32) (hx : V c (Proc.devRef .tc main_arg0) = x) (t : Fin cfg1.N) (j : S128x2048.Idx)
    (h : (grid1.coords t 0).val * 2048 + (j 1).val < 100000) :
    xblock V c t j = x (ix2 (j 0) ⟨(grid1.coords t 0).val * 2048 + (j 1).val, h⟩) := by
  have hm := moved_of_mask (grid1.coords t) j ((mask_iff _ _).mpr h)
  have hx' : V c (Proc.devRef .tc (Pipeline.arrRef spec1 0)) = x := hx
  unfold xblock Window.fill
  rw [dif_pos hm]
  unfold xpart
  rw [hx']
  obtain ⟨h0, h1⟩ := index_x t
  refine congrArg x (funext fun a => Fin.ext ?_)
  match a with
  | ⟨0, _⟩ => blk_simp; rw [h0]; exact (congrArg (· + (j 0).val) (Nat.zero_mul 128)).trans (Nat.zero_add _)
  | ⟨1, _⟩ => blk_simp; rw [h1]; rfl

theorem scores (V : Dev nD → Valuation τ sig (Elt F)) : (dat1 V c).arrAt 6 cfg1.N = V c (Proc.devRef .tc main_arg0) := by
  refine (dat1 V c).arrAt_eq_of_covers 6 _ (by decide +kernel) fun t hf y => ?_
  exact win1_0.fill_xinj (grid1.coords t) (fun _ => Scalar.ofBits .f32 0#32) (xpart V c t) y

theorem lastEnt (V : Dev nD → Valuation τ sig (Elt F)) : (dat1 V c).arrAt 7 cfg1.N = (stAt V c 49).ent := by
  refine (dat1 V c).arrAt_eq_of_after_last 7 ⟨48, by decide⟩ (by decide +kernel) _ fun j => ?_
  exact rfl

theorem lastBi (V : Dev nD → Valuation τ sig (Elt F)) : (dat1 V c).arrAt 8 cfg1.N = (stAt V c 49).bi := by
  refine (dat1 V c).arrAt_eq_of_after_last 8 ⟨48, by decide⟩ (by decide +kernel) _ fun j => ?_
  exact rfl

theorem W3_scores : W3 m c (Proc.devRef .tc main_v0_1) = m ((c : Thread nD τ).loc main_arg0) := by
  have h3 : W3 m c (Proc.devRef .tc main_v0_1) = W2 m c (Proc.devRef .tc main_v0_1) := StableHlo.after_of_writes_sub hostOps2 _ hostOps2_writes (by decide)
  have h2 : W2 m c (Proc.devRef .tc main_v0_1) = (dat1 (W1 m) c).arrAt 6 cfg1.N :=
    Pipeline.afterRegion_arr (dat1 (W1 m) c) (W1 m c) winFacts1.arr_inj 6
  have h1 : W1 m c (Proc.devRef .tc main_arg0) = W0 m c (Proc.devRef .tc main_arg0) :=
    Pipeline.afterRegion_keeps (dat0 (W0 m) c) (W0 m c) winFacts0.arr_inj (fun _ => rfl) main_arg0 (by decide)
  exact h3.trans (h2.trans ((scores c (W1 m)).trans h1))

theorem W3_samples (i : S5x128.Idx) : W3 m c (Proc.devRef .tc main_v0_0) i = (stAt (W1 m) c 49).bi (ix3 (i 0) (i 1) 0) := by
  have h2 : W2 m c (Proc.devRef .tc main_call0_v1_2) = (stAt (W1 m) c 49).bi :=
    (Pipeline.afterRegion_arr (dat1 (W1 m) c) (W1 m c) winFacts1.arr_inj 8).trans (lastBi c (W1 m))
  unfold W3
  after_reads_at
  rw [h2]

theorem W3_ent (i : S128.Idx) : W3 m c (Proc.devRef .tc main_v0_2) i = (stAt (W1 m) c 49).ent (ix2 (i 0) 0) := by
  have h2 : W2 m c (Proc.devRef .tc main_call0_v1_1) = (stAt (W1 m) c 49).ent :=
    (Pipeline.afterRegion_arr (dat1 (W1 m) c) (W1 m c) winFacts1.arr_inj 7).trans (lastEnt c (W1 m))
  unfold W3
  after_reads_at
  rw [h2]

end Cert.KernelIdeal.Gen

end
-- ==== Proof.Step.lean ====
module

public import proofs.«01_k».proof.Proof.Mask
public import proofs.«01_k».proof.Proof.Best
public import proofs.«01_k».proof.Proof.Softmax
public import Idealize.ShloMosaic.Lib.Pointwise
public import Idealize.ShloMosaic.Lib.IdealHost
public import Idealize.ShloMosaic.PureOps.Ideal.Laws

@[expose] public section

set_option maxRecDepth 16384

noncomputable section

namespace Cert.KernelIdeal.Gen

open Idealize.ShloMosaic Cert.Best Cert.Soft

theorem neg_inf : Ideal.ofBits .f32 4286578688#32 = ⊥ := by simp [Ideal.ofBits, Ideal.ieee]

variable (i : grid1.Coords) (x : Vec Ideal S128x2048 .f32) (s : St Ideal) (T : Fin 5 → Vec Ideal S1x128x2048 .f32) (r : Fin 128)

/-! ## One point of the second call, row by row -/

theorem ent_at : s.ent (ix2 r 0) = s.m (ix2 r 0) + Ideal.log (s.z (ix2 r 0)) - Ideal.div (s.a (ix2 r 0)) (s.z (ix2 r 0)) := by
  unfold St.ent k1_pay3
  pointwise

theorem max_at : k1_pay12 i x s.m (ix2 r 0) = max (s.m (ix2 r 0)) (Finset.fold max ⊥ (fun j => k1_pay11 i x (ix2 r j)) Finset.univ) := by
  unfold k1_pay12
  pointwise
  rw [neg_inf]

theorem m_at : (St.next i x T s).m (ix2 r 0) = k1_pay12 i x s.m (ix2 r 0) := by
  show k1_pay19 (k1_pay12 i x s.m) (ix2 r 0) = _
  unfold k1_pay19
  pointwise

theorem z_at : (St.next i x T s).z (ix2 r 0) = s.z (ix2 r 0) * Ideal.exp (s.m (ix2 r 0) - k1_pay12 i x s.m (ix2 r 0))
    + ∑ j, Ideal.exp (k1_pay11 i x (ix2 r j) - k1_pay12 i x s.m (ix2 r 0)) := by
  show k1_pay15 i x s.m s.z (ix2 r 0) = _
  unfold k1_pay15 k1_pay13 k1_pay14
  pointwise

/-- A column outside the array counts nothing, its score being −∞. -/
theorem a_at : (St.next i x T s).a (ix2 r 0) = s.a (ix2 r 0) * Ideal.exp (s.m (ix2 r 0) - k1_pay12 i x s.m (ix2 r 0))
    + ∑ j, Scalar.select (k1_pay10 i (ix2 r j)) (Ideal.exp (k1_pay11 i x (ix2 r j) - k1_pay12 i x s.m (ix2 r 0)) * x (ix2 r j)) 0 := by
  show k1_pay18 (k1_pay16 i x s.m s.a) (k1_pay17 i x s.m) (ix2 r 0) = _
  unfold k1_pay18 k1_pay16 k1_pay17 k1_pay13 k1_pay14
  pointwise

section Draw

variable (col : IVec S128x2048 32) (v : Vec Ideal S128x2048 .f32) (N : Vec Ideal S1x128x2048 .f32) (b : Vec Ideal S1x128x1 .f32) (n : Vec Ideal S1x128x1 .i32)

theorem best_at : k1_pay27 v N (ix2 r 0) = Finset.fold max ⊥ (fun j => v (ix2 r j) + N (ix3 0 r j)) Finset.univ := by
  unfold k1_pay27 k1_pay26
  pointwise
  rw [neg_inf]

theorem above_at : k1_pay28 v N b (ix2 r 0) = BitVec.ofBool (decide (b (ix3 0 r 0) < k1_pay27 v N (ix2 r 0))) := by
  unfold k1_pay28
  pointwise

theorem bvNext_at : bvNext v N b (ix3 0 r 0) = Scalar.select (k1_pay28 v N b (ix2 r 0)) (k1_pay27 v N (ix2 r 0)) (b (ix3 0 r 0)) := by
  refine Eq.trans (b := Scalar.select (k1_pay22 v N b (ix2 r 0)) (k1_pay21 v N (ix2 r 0)) (b (ix3 0 r 0))) ?_ rfl
  unfold bvNext k1_pay23
  pointwise

theorem biNext_at : biNext col v N b n (ix3 0 r 0) = Scalar.select (k1_pay28 v N b (ix2 r 0))
    (Finset.fold IntOp.minsi (2147483647#32)
      (fun j => if v (ix2 r j) + N (ix3 0 r j) = k1_pay27 v N (ix2 r 0) then col (ix2 r j) else 2147483647#32) Finset.univ) (n (ix3 0 r 0)) := by
  unfold biNext k1_pay30 k1_pay26
  pointwise

end Draw

end Cert.KernelIdeal.Gen

end
-- ==== Proof.Rows.lean ====
module

public import proofs.«01_k».proof.Proof.Arrays
public import proofs.«01_k».proof.Proof.Step

@[expose] public section

set_option maxRecDepth 16384

noncomputable section

namespace Cert.KernelIdeal.Gen

open Idealize.ShloMosaic Idealize.ShloMosaic.TcCoe Cert.Best Cert.Soft
open Idealize.SL.Sem

/-- A row of the logits, −∞ past its end. -/
def seen (x : S128x100000.Idx → EReal) (r : Fin 128) (n : ℕ) : EReal := if h : n < 100000 then x (ix2 r ⟨n, h⟩) else ⊥

/-- The candidates of draw `k` in a row. -/
def cand (x : S128x100000.Idx → EReal) (k : Fin 5) (r : Fin 128) (n : ℕ) : EReal := seen x r n + (drawn (F := Ideal) k.val r.val n : EReal)

variable (m : (ℓ : Loc nD τ sig) → Buf (Elt Ideal) ℓ) (c : Dev nD) (x : S128x100000.Idx → EReal)

theorem coord_val : ∀ t : Fin cfg1.N, (grid1.coords t 0).val = t.val := by decide +kernel

section Point

variable (hx : W1 m c (Proc.devRef .tc main_arg0) = x) (t : Fin cfg1.N) (r : Fin 128) (j : Fin 2048)

include hx

/-- What a point sees of a row. -/
theorem masked_at : k1_pay11 (grid1.coords t) (xblock (W1 m) c t) (ix2 r j) = seen x r (t.val * 2048 + j.val) := by
  have hm := mask_iff (grid1.coords t) (ix2 r j)
  have hc := coord_val t
  show Scalar.select (k1_pay10 (grid1.coords t) (ix2 r j)) (xblock (W1 m) c t (ix2 r j)) (Ideal.ofBits .f32 4286578688#32) = _
  unfold seen
  by_cases h : t.val * 2048 + j.val < 100000
  · have h' : (grid1.coords t 0).val * 2048 + j.val < 100000 := hc ▸ h
    rw [dif_pos h, sel_one _ _ (hm.mpr h'), xblock_at c (W1 m) x hx t (ix2 r j) h']
    exact congrArg x (congrArg (ix2 r) (Fin.ext (congrArg (· * 2048 + j.val) hc)))
  · rw [dif_neg h]
    exact (if_neg fun e => h (hc ▸ hm.mp e)).trans neg_inf

/-- A term of the weighted sum. -/
theorem term_at (M : EReal) : Scalar.select (k1_pay10 (grid1.coords t) (ix2 r j))
      (Ideal.exp (seen x r (t.val * 2048 + j.val) - M) * xblock (W1 m) c t (ix2 r j)) 0
    = Ideal.exp (seen x r (t.val * 2048 + j.val) - M) * seen x r (t.val * 2048 + j.val) := by
  have hm := mask_iff (grid1.coords t) (ix2 r j)
  have hc := coord_val t
  by_cases h : t.val * 2048 + j.val < 100000
  · have h' : (grid1.coords t 0).val * 2048 + j.val < 100000 := hc ▸ h
    rw [sel_one _ _ (hm.mpr h')]
    refine congrArg _ ?_
    rw [← masked_at m c x hx t r j]
    exact (sel_one _ _ (hm.mpr h')).symm
  · have e : seen x r (t.val * 2048 + j.val) = ⊥ := dif_neg h
    rw [e, EReal.bot_sub]
    exact (if_neg fun e => h (hc ▸ hm.mp e)).trans (zero_mul _).symm

end Point

/-- The columns of a block. -/
def block (t : ℕ) : Finset ℕ := Finset.univ.map ⟨fun j : Fin 2048 => t * 2048 + j.val, fun a b e => Fin.ext (Nat.add_left_cancel e)⟩

theorem range_block (t : ℕ) : Finset.range ((t + 1) * 2048) = Finset.range (t * 2048) ∪ block t := by
  ext n
  simp only [Finset.mem_range, Finset.mem_union, block, Finset.mem_map, Finset.mem_univ, true_and, Function.Embedding.coeFn_mk]
  constructor
  · intro h
    by_cases h' : n < t * 2048
    · exact .inl h'
    · exact .inr ⟨⟨n - t * 2048, by omega⟩, by show t * 2048 + (n - t * 2048) = n; omega⟩
  · rintro (h | ⟨j, rfl⟩)
    · omega
    · have := j.isLt; show t * 2048 + j.val < _; omega

theorem disjoint_block (t : ℕ) : Disjoint (Finset.range (t * 2048)) (block t) := by
  refine Finset.disjoint_left.mpr fun n h h' => ?_
  obtain ⟨j, -, e⟩ := Finset.mem_map.mp h'
  have h := Finset.mem_range.mp h
  have e : t * 2048 + j.val = n := e
  omega

/-- The running maximum and sums after `t` points. -/
theorem soft_run (hx : W1 m c (Proc.devRef .tc main_arg0) = x) (r : Fin 128) (hfin : ∀ n, seen x r n < ⊤) : ∀ t : ℕ, t ≤ 49 →
    Soft (Finset.range (t * 2048)) (seen x r) ((stAt (W1 m) c t).m (ix2 r 0)) ((stAt (W1 m) c t).z (ix2 r 0)) ((stAt (W1 m) c t).a (ix2 r 0))
  | 0, _ => by
    have h0 : Ideal.ofBits .f32 0x00000000#32 = 0 := by simp [Ideal.ofBits, Ideal.ieee]
    exact .inl ⟨neg_inf, h0, h0, fun n hn => absurd (Finset.mem_range.mp hn) (by omega)⟩
  | t + 1, ht => by
    have ih := soft_run hx r hfin t (by omega)
    let p : Fin cfg1.N := ⟨t, lt_of_lt_of_eq (by omega) N_1.symm⟩
    have hs : stAt (W1 m) c (t + 1) = _ := stAt_succ (W1 m) c p
    have hM : k1_pay12 (grid1.coords p) (xblock (W1 m) c p) (stAt (W1 m) c t).m (ix2 r 0)
        = max ((stAt (W1 m) c t).m (ix2 r 0)) (Finset.fold max ⊥ (seen x r) (block t)) := by
      rw [max_at, block, Finset.fold_map]
      exact congrArg (max _) (congrArg (fun f => Finset.fold max ⊥ f Finset.univ) (funext fun j => masked_at m c x hx p r j))
    have h := ih.block (disjoint_block t) (fun n _ => hfin n) hM
    rw [← range_block] at h
    have hz : ∑ n ∈ block t, Ideal.exp (seen x r n - k1_pay12 (grid1.coords p) (xblock (W1 m) c p) (stAt (W1 m) c t).m (ix2 r 0))
        = ∑ j, Ideal.exp (k1_pay11 (grid1.coords p) (xblock (W1 m) c p) (ix2 r j) - k1_pay12 (grid1.coords p) (xblock (W1 m) c p) (stAt (W1 m) c t).m (ix2 r 0)) := by
      rw [block, Finset.sum_map]
      exact Finset.sum_congr rfl fun j _ => by rw [masked_at m c x hx p r j]; rfl
    have ha : ∑ n ∈ block t, Ideal.exp (seen x r n - k1_pay12 (grid1.coords p) (xblock (W1 m) c p) (stAt (W1 m) c t).m (ix2 r 0)) * seen x r n
        = ∑ j, Scalar.select (k1_pay10 (grid1.coords p) (ix2 r j)) (Ideal.exp (k1_pay11 (grid1.coords p) (xblock (W1 m) c p) (ix2 r j)
          - k1_pay12 (grid1.coords p) (xblock (W1 m) c p) (stAt (W1 m) c t).m (ix2 r 0)) * xblock (W1 m) c p (ix2 r j)) 0 := by
      rw [block, Finset.sum_map]
      exact Finset.sum_congr rfl fun j _ => by rw [masked_at m c x hx p r j]; exact (term_at m c x hx p r j _).symm
    rw [hz, ha] at h
    rw [hs, m_at, z_at, a_at]
    exact h

/-- One point of the search for the best candidate. -/
theorem best_step {col : IVec S128x2048 32} {v : Vec Ideal S128x2048 .f32} {N : Vec Ideal S1x128x2048 .f32} {b : Vec Ideal S1x128x1 .f32}
    {n : Vec Ideal S1x128x1 .i32} {r : Fin 128} {f : ℕ → EReal} {t i : ℕ} (ht : t < 49)
    (hc : ∀ j : Fin 2048, v (ix2 r j) + N (ix3 0 r j) = f (t * 2048 + j.val)) (hcol : ∀ j : Fin 2048, col (ix2 r j) = BitVec.ofNat 32 (t * 2048 + j.val))
    (hb : Best (· < t * 2048) f (b (ix3 0 r 0)) i) (hi : n (ix3 0 r 0) = BitVec.ofNat 32 i) :
    ∃ i', Best (· < (t + 1) * 2048) f (bvNext v N b (ix3 0 r 0)) i' ∧ biNext col v N b n (ix3 0 r 0) = BitVec.ofNat 32 i' := by
  have hM : k1_pay27 v N (ix2 r 0) = Finset.fold max ⊥ (fun j : Fin 2048 => f (t * 2048 + j.val)) Finset.univ :=
    (best_at _ _ _).trans (congrArg (fun f => Finset.fold max ⊥ f Finset.univ) (funext hc))
  obtain ⟨i', hb', hi'⟩ := hb.block ht _ hi (k1_pay28 v N b (ix2 r 0)) (by rw [above_at, hM])
  refine ⟨i', ?_, ?_⟩
  · rw [bvNext_at, hM]; exact hb'
  · rw [biNext_at, hM, ← hi']
    refine congrArg (fun f => Scalar.select _ (Finset.fold IntOp.minsi (2147483647#32) f Finset.univ) _) (funext fun j => ?_)
    rw [hc, hcol]

section Stacks

variable {e : EltTy} (k : Fin 5) (r : Fin 128)

theorem slab_at (x : Vec Ideal S5x128x1 e) : slab k x (ix3 0 r 0) = x (ix3 k r 0) :=
  congrArg x (funext fun a => match a with | ⟨0, _⟩ => rfl | ⟨1, _⟩ => rfl | ⟨2, _⟩ => rfl)
theorem stack_at (p : Fin 5 → Vec Ideal S1x128x1 e) : stack p (ix3 k r 0) = p k (ix3 0 r 0) :=
  congrArg (p k) (funext fun a => match a with | ⟨0, _⟩ => rfl | ⟨1, _⟩ => rfl | ⟨2, _⟩ => rfl)

variable {F : FTy → Type} [FloatOps F] (i : grid1.Coords) (y : Vec F S128x2048 .f32) (T : Fin 5 → Vec F S1x128x2048 .f32) (s : St F)

theorem next_bv : (St.next i y T s).bv = stack fun k => bvNext (k1_pay11 i y) (T k) (slab k s.bv) := by
  unfold St.next; dsimp only
theorem next_bi : (St.next i y T s).bi = stack fun k => biNext (k1_pay9 i) (k1_pay11 i y) (T k) (slab k s.bv) (slab k s.bi) := by
  unfold St.next; dsimp only

end Stacks

/-- The best candidate after `t` points. -/
theorem best_run (hx : W1 m c (Proc.devRef .tc main_arg0) = x) (k : Fin 5) (r : Fin 128) : ∀ t : ℕ, t ≤ 49 →
    ∃ i, Best (· < t * 2048) (cand x k r) ((stAt (W1 m) c t).bv (ix3 k r 0)) i ∧ (stAt (W1 m) c t).bi (ix3 k r 0) = BitVec.ofNat 32 i
  | 0, _ => by
    refine ⟨0, ?_, rfl⟩
    rw [show (stAt (W1 m) c 0).bv (ix3 k r 0) = (⊥ : EReal) from neg_inf]
    exact Best.none fun n hn => by omega
  | t + 1, ht => by
    obtain ⟨i, hb, hi⟩ := best_run hx k r t (by omega)
    let p : Fin cfg1.N := ⟨t, lt_of_lt_of_eq (by omega) N_1.symm⟩
    have hs : stAt (W1 m) c (t + 1) = St.next (grid1.coords p) (xblock (W1 m) c p) (tabs c (W1 m) p) (stAt (W1 m) c t) := stAt_succ (W1 m) c p
    have hc : ∀ j : Fin 2048, k1_pay11 (grid1.coords p) (xblock (W1 m) c p) (ix2 r j) + tabs c (W1 m) p k (ix3 0 r j) = cand x k r (t * 2048 + j.val) := fun j => by
      have h2 := tabs_at m c p k (ix3 0 r j)
      rw [coord_val] at h2
      rw [masked_at m c x hx p r j, h2]; rfl
    have hcol : ∀ j : Fin 2048, k1_pay9 (grid1.coords p) (ix2 r j) = BitVec.ofNat 32 (t * 2048 + j.val) := fun j =>
      (col_apply _ _).trans (congrArg (fun q => BitVec.ofNat 32 (q * 2048 + j.val)) (coord_val p))
    obtain ⟨i', h1, h2⟩ := best_step (b := slab k (stAt (W1 m) c t).bv) (n := slab k (stAt (W1 m) c t).bi) (by omega) hc hcol
      ((slab_at k r (stAt (W1 m) c t).bv).symm ▸ hb) ((slab_at k r (stAt (W1 m) c t).bi).trans hi)
    exact ⟨i', by rw [hs, next_bv, stack_at]; exact h1, by rw [hs, next_bi, stack_at]; exact h2⟩

/-- The sums over the blocks are those over the row. -/
theorem sum_row (r : Fin 128) (f : EReal → ℝ) (h : f ⊥ = 0) : ∑ n ∈ Finset.range (49 * 2048), f (seen x r n) = ∑ n : Fin 100000, f (x (ix2 r n)) := by
  have hr : ∑ n ∈ Finset.range 100000, f (seen x r n) = ∑ n ∈ Finset.range (49 * 2048), f (seen x r n) :=
    Finset.sum_subset (fun n hn => Finset.mem_range.mpr (lt_of_lt_of_le (Finset.mem_range.mp hn) (by omega))) fun n _ hn => by
      unfold seen; rw [dif_neg fun h' => hn (Finset.mem_range.mpr h'), h]
  rw [← hr, Finset.sum_range]
  exact Finset.sum_congr rfl fun n _ => by unfold seen; rw [dif_pos n.isLt]

/-- The kernel's entropy of a row that has a logit above −∞ and none of +∞. -/
theorem ent_row (hx : W1 m c (Proc.devRef .tc main_arg0) = x) (r : Fin 128) (hfin : ∀ n, x (ix2 r n) < ⊤) (hex : ∃ n, ⊥ < x (ix2 r n)) :
    ∃ μ : ℝ, (∀ n, x (ix2 r n) ≤ μ) ∧ (∃ n, x (ix2 r n) = μ) ∧
      (stAt (W1 m) c 49).ent (ix2 r 0) = ((μ + Real.log (Z Finset.univ (fun n => x (ix2 r n)) μ)
        - A Finset.univ (fun n => x (ix2 r n)) μ / Z Finset.univ (fun n => x (ix2 r n)) μ : ℝ) : EReal) := by
  have hseen : ∀ n : Fin 100000, seen x r n.val = x (ix2 r n) := fun n => dif_pos n.isLt
  have h := soft_run m c x hx r (fun n => by unfold seen; split; exacts [hfin _, bot_lt_top]) 49 (le_refl _)
  rw [ent_at]
  rcases h with ⟨-, -, -, hb⟩ | ⟨μ, hm, hle, hat, hz, ha⟩
  · obtain ⟨n, hn⟩ := hex
    exact absurd ((hseen n).symm.trans (hb n.val (Finset.mem_range.mpr (lt_of_lt_of_le n.isLt (by omega))))) hn.ne'
  · refine ⟨μ, fun n => (hseen n).symm.trans_le (hle n.val (Finset.mem_range.mpr (lt_of_lt_of_le n.isLt (by omega)))), ?_, ?_⟩
    · obtain ⟨n, -, e⟩ := hat
      by_cases h' : n < 100000
      · exact ⟨⟨n, h'⟩, (hseen ⟨n, h'⟩).symm.trans e⟩
      · exact absurd (Eq.trans (dif_neg h').symm e) (EReal.coe_ne_bot μ).symm
    · rw [hm, hz, ha, ent_sums hat]
      have e1 : Z (Finset.range (49 * 2048)) (seen x r) μ = Z Finset.univ (fun n => x (ix2 r n)) μ :=
        sum_row x r (fun l => wt l μ) (if_pos rfl)
      have e2 : A (Finset.range (49 * 2048)) (seen x r) μ = A Finset.univ (fun n => x (ix2 r n)) μ :=
        sum_row x r (fun l => wt l μ * l.toReal) (by rw [show wt ⊥ μ = 0 from if_pos rfl, zero_mul])
      rw [e1, e2]

/-- The kernel's sample of a row. -/
theorem bi_row (hx : W1 m c (Proc.devRef .tc main_arg0) = x) (k : Fin 5) (r : Fin 128) :
    ∃ v i, Best (· < 49 * 2048) (cand x k r) v i ∧ (stAt (W1 m) c 49).bi (ix3 k r 0) = BitVec.ofNat 32 i := by
  obtain ⟨i, h, e⟩ := best_run m c x hx k r 49 (le_refl _)
  exact ⟨_, i, h, e⟩

end Cert.KernelIdeal.Gen

end
-- ==== Proof.Algebraic.lean ====
module

public import proofs.«01_k».proof.Defs
public import proofs.«01_k».proof.Proof.RefRows
public import proofs.«01_k».proof.Proof.Rows
public import proofs.«01_k».proof.Proof.Noise
public import proofs.«01_k».proof.Proof.Run
public import proofs.«01_k».proof.Proof.Reference
public import proofs.«01_k».proof.Proof.Gen.Pre_distribution
public import Idealize.ShloMosaic.Lib.Pointwise

@[expose] public section

set_option maxRecDepth 16384

noncomputable section

namespace Cert.Algebraic

open Idealize.ShloMosaic Idealize.ShloMosaic.TcCoe Idealize.SL.Sem Cert.Best

/-! ## What the precondition says -/

section Pre

variable (x : FVec Ideal Pre_distribution.S128x100000 .f32)

open Cert.Pre_distribution Cert.Pre_distribution.Facts

theorem pre_at (M : FVec Ideal S128 .f32) (r : Fin 128) (n : Fin 100000) :
    andi (cmpf .olt x (broadcastInDim S128x100000 ![] bcast_S_S128x100000 (constant S_ .f32 0x7F800000#32)))
      (broadcastInDim S128x100000 ![0, 1] bcast_S128x1_S128x100000_0_1 (cmpf .ogt (broadcastInDim S128x1 ![0] bcast_S128_S128x1_0 M)
        (broadcastInDim S128x1 ![] bcast_S_S128x1 (constant S_ .f32 0xFF800000#32)))) (ix2 r n)
      = IntOp.andi (BitVec.ofBool (decide (x (ix2 r n) < Ideal.ofBits .f32 2139095040#32))) (BitVec.ofBool (decide (Ideal.ofBits .f32 4286578688#32 < M (ix1 r)))) := by
  pointwise

theorem and_true : ∀ p q : Bool, IntOp.andi (BitVec.ofBool p) (BitVec.ofBool q) = 1#1 → p = true ∧ q = true := by decide

/-- No logit is +∞, and every row has one above −∞. -/
theorem of_pre (h : Pre_distribution.fn (F := Ideal) x = fun _ => 1#1) (r : Fin 128) : (∀ n, x (ix2 r n) < ⊤) ∧ ∃ n, ⊥ < x (ix2 r n) := by
  have htop : Ideal.ofBits .f32 2139095040#32 = ⊤ := by simp [Ideal.ofBits, Ideal.ieee]
  have hbot : Ideal.ofBits .f32 4286578688#32 = ⊥ := by simp [Ideal.ofBits, Ideal.ieee]
  have key : ∀ n, x (ix2 r n) < ⊤ ∧ ⊥ < Finset.fold max ⊥ (fun k : Fin 100000 => x (ix2 r k)) Finset.univ := fun n => by
    have e := (pre_at x _ r n).symm.trans (congrFun h (ix2 r n))
    have e := and_true _ _ e
    rw [decide_eq_true_iff, decide_eq_true_iff] at e
    beta_reduce at e
    rw [ReferenceIdeal.Gen.hostMax_at, htop, hbot] at e
    exact e
  refine ⟨fun n => (key n).1, ?_⟩
  obtain ⟨n, -, hn⟩ := ((Finset.lt_fold_max _).mp (key ⟨0, by norm_num⟩).2).resolve_left (lt_irrefl _)
  exact ⟨n, hn⟩

end Pre

/-! ## The results agree -/

section Agree

open Cert.KernelIdeal Cert.KernelIdeal.Gen

variable (m : (ℓ : Loc nD τ sig) → Buf (Elt Ideal) ℓ) (c : Dev nD) (x : FVec Ideal S128x100000 .f32) (hx : W1 m c (Proc.devRef .tc main_arg0) = x)

theorem cand_eq (k : Fin 5) (r : Fin 128) (n : ℕ) (h : n < 100000) : cand x k r n
    = ReferenceIdeal.Gen.gumbel (F := Ideal) (Threefry.word (BitVec.ofNat 32 (12800000 * k.val + 100000 * r.val + n))) + x (ix2 r ⟨n, h⟩) := by
  unfold cand seen drawn
  rw [dif_pos h, Noise.gumbel_eq]
  exact add_comm _ _

theorem cand_past (k : Fin 5) (r : Fin 128) (n : ℕ) (h : ¬ n < 100000) : cand x k r n = ⊥ := by
  unfold cand seen
  rw [dif_neg h, EReal.bot_add]

include hx

theorem samples_agree (i : S5x128.Idx) : (Host.argReduce ReferenceIdeal.reducer_argmax_f32_i32 (ReferenceIdeal.Gen.cands x)
      (iotaInDim ReferenceIdeal.S5x128x100000 32 2) (constant ReferenceIdeal.S_ .f32 0xFF800000#32) (constantI ReferenceIdeal.S_ 32 0#32)
        ReferenceIdeal.Gen.reducesTo_S5x128x100000_S5x128_d2 ReferenceIdeal.Gen.h_S_ i).2 = W3 m c (Proc.devRef .tc main_v0_0) i := by
  obtain ⟨v, j, hb, e⟩ := ReferenceIdeal.Gen.sample_at x i (cand x (i 0) (i 1)) (fun n h => cand_eq x (i 0) (i 1) n h)
  obtain ⟨v', j', hb', e'⟩ := bi_row m c x hx (i 0) (i 1)
  have hw : Best (· < 49 * 2048) (cand x (i 0) (i 1)) v j :=
    hb.widen (fun n hn => lt_trans hn (by norm_num)) fun n _ hn => cand_past x _ _ n hn
  rw [W3_samples, e', ← hw.unique hb']
  exact e

theorem entropies_agree (r : Fin 128) (hfin : ∀ n, x (ix2 r n) < ⊤) (hex : ∃ n, ⊥ < x (ix2 r n)) :
    Host.negf (Host.reduceAdd (mulf (Host.exp (ReferenceIdeal.Gen.logProb x)) (ReferenceIdeal.Gen.logProb x)) (constant ReferenceIdeal.S_ .f32 0x00000000#32)
      ReferenceIdeal.Gen.reducesTo_S128x100000_S128_d1 ReferenceIdeal.Gen.h_S_) (ix1 r) = W3 m c (Proc.devRef .tc main_v0_2) (ix1 r) := by
  obtain ⟨μ, hle, hat, e⟩ := ent_row m c x hx r hfin hex
  rw [W3_ent, ReferenceIdeal.Gen.entropy_at x r μ hle hat]
  exact e.symm

end Agree

theorem W1_arg (m : (ℓ : Loc KernelIdeal.nD KernelIdeal.τ KernelIdeal.sig) → Buf (Elt Ideal) ℓ) (c : Dev KernelIdeal.nD) :
    KernelIdeal.Gen.W1 m c (Proc.devRef .tc KernelIdeal.main_arg0) = m ((c.tc : Thread KernelIdeal.nD KernelIdeal.τ).loc KernelIdeal.main_arg0) :=
  (Pipeline.afterRegion_keeps (KernelIdeal.Gen.dat0 (KernelIdeal.Gen.W0 m) c) (KernelIdeal.Gen.W0 m c) KernelIdeal.Gen.winFacts0.arr_inj (fun _ => rfl) KernelIdeal.main_arg0 (by decide)).trans rfl

/-- The kernel's three results are the reference's. -/
theorem agree : Cert.algebraic_KernelIdeal_ReferenceIdeal_pre_distribution := by
  intro m g m' g' hpre harg
  refine ⟨fun c => KernelIdeal.Gen.W3 m c (Proc.devRef .tc KernelIdeal.main_v0_0), fun c => KernelIdeal.Gen.W3 m c (Proc.devRef .tc KernelIdeal.main_v0_1),
    fun c => KernelIdeal.Gen.W3 m c (Proc.devRef .tc KernelIdeal.main_v0_2), θ_run_mono (KernelIdeal.Gen.run_main m g) fun r h c => ?_,
    θ_run_mono (ReferenceIdeal.Gen.run m' g') fun r h c => ?_⟩
  · exact ⟨h.1 c _ (by decide), h.1 c _ (by decide), h.1 c _ (by decide), (h.1 c _ (by decide)).trans (KernelIdeal.Gen.W3_arg m c)⟩
  · have hl : StableHlo.launchContents m' c (Proc.devRef .tc ReferenceIdeal.main_arg0) = m ((c.tc : Thread KernelIdeal.nD KernelIdeal.τ).loc KernelIdeal.main_arg0) := harg c
    have hx := W1_arg m c
    have hp := of_pre _ (hpre c)
    have hk := ReferenceIdeal.Gen.arg_kept (StableHlo.launchContents m' c)
    refine ⟨?_, (h.1 c _).trans (hk.trans (hl.trans (KernelIdeal.Gen.W3_scores m c).symm)), ?_, (h.1 c _).trans hk⟩
    · refine (h.1 c _).trans ((ReferenceIdeal.Gen.sample _).trans (funext fun i => ?_))
      rw [hl]
      exact samples_agree m c _ hx i
    · refine (h.1 c _).trans ((ReferenceIdeal.Gen.entropy _).trans (funext fun i => ?_))
      rw [hl]
      obtain ⟨r, rfl⟩ : ∃ r : Fin 128, i = ix1 r := ⟨i 0, funext fun a => match a with | ⟨0, _⟩ => rfl⟩
      exact entropies_agree m c _ hx r (hp r).1 (hp r).2

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_distribution
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_distribution.Gen.facts,
  Cert.Frames.kernel, Cert.Frames.ideal, Cert.Frames.ideal_pre, Cert.Frames.reference, Cert.Frames.reference_pre, trivial,
  Cert.Algebraic.agree⟩

end Cert.Proof

end
